-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S1024x8192 : Shape := ⟨2, ![1024, 8192]⟩
abbrev S_ : Shape := ⟨0, ![]⟩
abbrev S1024x256 : Shape := ⟨2, ![1024, 256]⟩
abbrev S512x1024 : Shape := ⟨2, ![512, 1024]⟩
abbrev S2x16x1024 : Shape := ⟨3, ![2, 16, 1024]⟩
abbrev S2 : Shape := ⟨1, ![2]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x16x1024 : Shape := ⟨3, ![1, 16, 1024]⟩
abbrev S16x1024 : Shape := ⟨2, ![16, 1024]⟩
abbrev S1 : Shape := ⟨1, ![1]⟩

abbrev nBuf : Space → Nat
  | .hbm => 30
  | .vmem => 9
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1024x8192, .f32⟩
  | .hbm, ⟨3, _⟩ => ⟨S1024x8192, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1024x256, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1024x256, .f32⟩
  | .hbm, ⟨29, _⟩ => ⟨S1x512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1024x256, .f32⟩
  | .local _ .vmem, ⟨4, _⟩ => ⟨S1024x256, .f32⟩
  | .local _ .vmem, ⟨5, _⟩ => ⟨S1x512x1024, .f32⟩
  | .local _ .vmem, ⟨6, _⟩ => ⟨S512x1024, .f32⟩
  | .local _ .vmem, ⟨7, _⟩ => ⟨S2x16x1024, .f32⟩
  | .local _ .vmem, ⟨8, _⟩ => ⟨S2x16x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => true
  | ⟨1, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 2 10 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_81 : BitVec 32 := 1#32
  let v196 : BitVec 32 := Scalar.muli v13 c1_i32_81
  let v197 : BitVec 32 := Scalar.addi c0_i32_82 v196
  v197.toNat
def k0_dev2 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_84 : BitVec 32 := 1#32
  let v198 : BitVec 32 := Scalar.muli v24 c1_i32_84
  let v199 : BitVec 32 := Scalar.addi c0_i32_85 v198
  v199.toNat
def k0_off1 (d0 : Dev nD) (c0_i32_86 : BitVec 32) : Fin 3 → Nat :=
  let c0_101 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v200 : BitVec 32 := Scalar.subi v2 c0_i32_86
  let c32_i32_87 : BitVec 32 := 32#32
  let c0_i32_88 : BitVec 32 := 0#32
  let v201 : BitVec 1 := Scalar.cmpi .eq c32_i32_87 c0_i32_88
  let c1_i32_89 : BitVec 32 := 1#32
  let v202 : BitVec 32 := Scalar.select v201 c1_i32_89 c32_i32_87
  let v203 : BitVec 32 := Scalar.remsi v200 v202
  let c0_i32_91 : BitVec 32 := 0#32
  let v205 : BitVec 1 := Scalar.cmpi .slt v203 c0_i32_91
  let c0_i32_92 : BitVec 32 := 0#32
  let v206 : BitVec 1 := Scalar.cmpi .slt v202 c0_i32_92
  let v207 : BitVec 1 := Scalar.xori v205 v206
  let c0_i32_90 : BitVec 32 := 0#32
  let v204 : BitVec 1 := Scalar.cmpi .ne v203 c0_i32_90
  let v208 : BitVec 1 := Scalar.andi v207 v204
  let v209 : BitVec 32 := Scalar.addi v203 v202
  let v210 : BitVec 32 := Scalar.select v208 v209 v203
  let c16_i32 : BitVec 32 := 16#32
  let v223 : BitVec 32 := Scalar.muli v210 c16_i32
  let v224 : Index := Scalar.indexCast v223
  let c0_102 : Index := 0#32
  ![0, v224.toNat, 0]
def k0_dev3 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_110 : BitVec 32 := 1#32
  let v230 : BitVec 32 := Scalar.muli v24 c1_i32_110
  let v231 : BitVec 32 := Scalar.addi c0_i32_111 v230
  v231.toNat
def k0_off2 (d0 : Dev nD) (c0_i32_93 : BitVec 32) : Fin 3 → Nat :=
  let c0_136 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v211 : BitVec 32 := Scalar.subi v2 c0_i32_93
  let c1_i32_94 : BitVec 32 := 1#32
  let v212 : BitVec 32 := Scalar.subi v211 c1_i32_94
  let c32_i32_95 : BitVec 32 := 32#32
  let c0_i32_96 : BitVec 32 := 0#32
  let v213 : BitVec 1 := Scalar.cmpi .eq c32_i32_95 c0_i32_96
  let c1_i32_97 : BitVec 32 := 1#32
  let v214 : BitVec 32 := Scalar.select v213 c1_i32_97 c32_i32_95
  let v215 : BitVec 32 := Scalar.remsi v212 v214
  let c0_i32_99 : BitVec 32 := 0#32
  let v217 : BitVec 1 := Scalar.cmpi .slt v215 c0_i32_99
  let c0_i32_100 : BitVec 32 := 0#32
  let v218 : BitVec 1 := Scalar.cmpi .slt v214 c0_i32_100
  let v219 : BitVec 1 := Scalar.xori v217 v218
  let c0_i32_98 : BitVec 32 := 0#32
  let v216 : BitVec 1 := Scalar.cmpi .ne v215 c0_i32_98
  let v220 : BitVec 1 := Scalar.andi v219 v216
  let v221 : BitVec 32 := Scalar.addi v215 v214
  let v222 : BitVec 32 := Scalar.select v220 v221 v215
  let c16_i32_135 : BitVec 32 := 16#32
  let v254 : BitVec 32 := Scalar.muli v222 c16_i32_135
  let v255 : Index := Scalar.indexCast v254
  let c0_137 : Index := 0#32
  ![0, v255.toNat, 0]
def k0_dev4 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_144 : BitVec 32 := 1#32
  let v265 : BitVec 32 := Scalar.muli v13 c1_i32_144
  let v266 : BitVec 32 := Scalar.addi c0_i32_145 v265
  v266.toNat
def k0_dev5 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_170 : BitVec 32 := 1#32
  let v297 : BitVec 32 := Scalar.muli v24 c1_i32_170
  let v298 : BitVec 32 := Scalar.addi c0_i32_171 v297
  v298.toNat
def k0_dev6 (d0 : Dev nD) : Nat :=
  let c0_i32_205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_204 : BitVec 32 := 1#32
  let v332 : BitVec 32 := Scalar.muli v13 c1_i32_204
  let v333 : BitVec 32 := Scalar.addi c0_i32_205 v332
  v333.toNat
def k0_dev7 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_233 : BitVec 32 := 1#32
  let v364 : BitVec 32 := Scalar.muli v24 c1_i32_233
  let v365 : BitVec 32 := Scalar.addi c0_i32_234 v364
  v365.toNat
def k0_dev8 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_267 : BitVec 32 := 1#32
  let v399 : BitVec 32 := Scalar.muli v13 c1_i32_267
  let v400 : BitVec 32 := Scalar.addi c0_i32_268 v399
  v400.toNat
def k0_dev9 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_295 : BitVec 32 := 1#32
  let v431 : BitVec 32 := Scalar.muli v24 c1_i32_295
  let v432 : BitVec 32 := Scalar.addi c0_i32_296 v431
  v432.toNat
def k0_dev10 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_329 : BitVec 32 := 1#32
  let v466 : BitVec 32 := Scalar.muli v13 c1_i32_329
  let v467 : BitVec 32 := Scalar.addi c0_i32_330 v466
  v467.toNat
def k0_dev11 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_357 : BitVec 32 := 1#32
  let v498 : BitVec 32 := Scalar.muli v24 c1_i32_357
  let v499 : BitVec 32 := Scalar.addi c0_i32_358 v498
  v499.toNat
def k0_dev12 (d0 : Dev nD) : Nat :=
  let c0_i32_392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_391 : BitVec 32 := 1#32
  let v533 : BitVec 32 := Scalar.muli v13 c1_i32_391
  let v534 : BitVec 32 := Scalar.addi c0_i32_392 v533
  v534.toNat
def k0_dev13 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_419 : BitVec 32 := 1#32
  let v565 : BitVec 32 := Scalar.muli v24 c1_i32_419
  let v566 : BitVec 32 := Scalar.addi c0_i32_420 v565
  v566.toNat
def k0_dev14 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_453 : BitVec 32 := 1#32
  let v600 : BitVec 32 := Scalar.muli v13 c1_i32_453
  let v601 : BitVec 32 := Scalar.addi c0_i32_454 v600
  v601.toNat
def k0_dev15 (d0 : Dev nD) : Nat :=
  let c0_i32_482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_481 : BitVec 32 := 1#32
  let v632 : BitVec 32 := Scalar.muli v24 c1_i32_481
  let v633 : BitVec 32 := Scalar.addi c0_i32_482 v632
  v633.toNat
def k0_dev16 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_515 : BitVec 32 := 1#32
  let v667 : BitVec 32 := Scalar.muli v13 c1_i32_515
  let v668 : BitVec 32 := Scalar.addi c0_i32_516 v667
  v668.toNat
def k0_dev17 (d0 : Dev nD) : Nat :=
  let c0_i32_544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_543 : BitVec 32 := 1#32
  let v699 : BitVec 32 := Scalar.muli v24 c1_i32_543
  let v700 : BitVec 32 := Scalar.addi c0_i32_544 v699
  v700.toNat
def k0_dev18 (d0 : Dev nD) : Nat :=
  let c0_i32_578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_577 : BitVec 32 := 1#32
  let v734 : BitVec 32 := Scalar.muli v13 c1_i32_577
  let v735 : BitVec 32 := Scalar.addi c0_i32_578 v734
  v735.toNat
def k0_dev19 (d0 : Dev nD) : Nat :=
  let c0_i32_606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_605 : BitVec 32 := 1#32
  let v766 : BitVec 32 := Scalar.muli v24 c1_i32_605
  let v767 : BitVec 32 := Scalar.addi c0_i32_606 v766
  v767.toNat
def k0_dev20 (d0 : Dev nD) : Nat :=
  let c0_i32_640 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_639 : BitVec 32 := 1#32
  let v801 : BitVec 32 := Scalar.muli v13 c1_i32_639
  let v802 : BitVec 32 := Scalar.addi c0_i32_640 v801
  v802.toNat
def k0_dev21 (d0 : Dev nD) : Nat :=
  let c0_i32_668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_667 : BitVec 32 := 1#32
  let v833 : BitVec 32 := Scalar.muli v24 c1_i32_667
  let v834 : BitVec 32 := Scalar.addi c0_i32_668 v833
  v834.toNat
def k0_dev22 (d0 : Dev nD) : Nat :=
  let c0_i32_702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_701 : BitVec 32 := 1#32
  let v868 : BitVec 32 := Scalar.muli v13 c1_i32_701
  let v869 : BitVec 32 := Scalar.addi c0_i32_702 v868
  v869.toNat
def k0_dev23 (d0 : Dev nD) : Nat :=
  let c0_i32_730 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_729 : BitVec 32 := 1#32
  let v900 : BitVec 32 := Scalar.muli v24 c1_i32_729
  let v901 : BitVec 32 := Scalar.addi c0_i32_730 v900
  v901.toNat
def k0_dev24 (d0 : Dev nD) : Nat :=
  let c0_i32_764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_763 : BitVec 32 := 1#32
  let v935 : BitVec 32 := Scalar.muli v13 c1_i32_763
  let v936 : BitVec 32 := Scalar.addi c0_i32_764 v935
  v936.toNat
def k0_dev25 (d0 : Dev nD) : Nat :=
  let c0_i32_792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_791 : BitVec 32 := 1#32
  let v967 : BitVec 32 := Scalar.muli v24 c1_i32_791
  let v968 : BitVec 32 := Scalar.addi c0_i32_792 v967
  v968.toNat
def k0_dev26 (d0 : Dev nD) : Nat :=
  let c0_i32_826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_825 : BitVec 32 := 1#32
  let v1002 : BitVec 32 := Scalar.muli v13 c1_i32_825
  let v1003 : BitVec 32 := Scalar.addi c0_i32_826 v1002
  v1003.toNat
def k0_dev27 (d0 : Dev nD) : Nat :=
  let c0_i32_854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_853 : BitVec 32 := 1#32
  let v1034 : BitVec 32 := Scalar.muli v24 c1_i32_853
  let v1035 : BitVec 32 := Scalar.addi c0_i32_854 v1034
  v1035.toNat
def k0_dev28 (d0 : Dev nD) : Nat :=
  let c0_i32_888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_887 : BitVec 32 := 1#32
  let v1069 : BitVec 32 := Scalar.muli v13 c1_i32_887
  let v1070 : BitVec 32 := Scalar.addi c0_i32_888 v1069
  v1070.toNat
def k0_dev29 (d0 : Dev nD) : Nat :=
  let c0_i32_916 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_915 : BitVec 32 := 1#32
  let v1101 : BitVec 32 := Scalar.muli v24 c1_i32_915
  let v1102 : BitVec 32 := Scalar.addi c0_i32_916 v1101
  v1102.toNat
def k0_dev30 (d0 : Dev nD) : Nat :=
  let c0_i32_950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_949 : BitVec 32 := 1#32
  let v1136 : BitVec 32 := Scalar.muli v13 c1_i32_949
  let v1137 : BitVec 32 := Scalar.addi c0_i32_950 v1136
  v1137.toNat
def k0_dev31 (d0 : Dev nD) : Nat :=
  let c0_i32_978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_977 : BitVec 32 := 1#32
  let v1168 : BitVec 32 := Scalar.muli v24 c1_i32_977
  let v1169 : BitVec 32 := Scalar.addi c0_i32_978 v1168
  v1169.toNat
def k0_dev32 (d0 : Dev nD) : Nat :=
  let c0_i32_1012 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1011 : BitVec 32 := 1#32
  let v1203 : BitVec 32 := Scalar.muli v13 c1_i32_1011
  let v1204 : BitVec 32 := Scalar.addi c0_i32_1012 v1203
  v1204.toNat
def k0_dev33 (d0 : Dev nD) : Nat :=
  let c0_i32_1040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1039 : BitVec 32 := 1#32
  let v1235 : BitVec 32 := Scalar.muli v24 c1_i32_1039
  let v1236 : BitVec 32 := Scalar.addi c0_i32_1040 v1235
  v1236.toNat
def k0_dev34 (d0 : Dev nD) : Nat :=
  let c0_i32_1074 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1073 : BitVec 32 := 1#32
  let v1270 : BitVec 32 := Scalar.muli v13 c1_i32_1073
  let v1271 : BitVec 32 := Scalar.addi c0_i32_1074 v1270
  v1271.toNat
def k0_dev35 (d0 : Dev nD) : Nat :=
  let c0_i32_1103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1102 : BitVec 32 := 1#32
  let v1302 : BitVec 32 := Scalar.muli v24 c1_i32_1102
  let v1303 : BitVec 32 := Scalar.addi c0_i32_1103 v1302
  v1303.toNat
def k0_dev36 (d0 : Dev nD) : Nat :=
  let c0_i32_1137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1136 : BitVec 32 := 1#32
  let v1337 : BitVec 32 := Scalar.muli v13 c1_i32_1136
  let v1338 : BitVec 32 := Scalar.addi c0_i32_1137 v1337
  v1338.toNat
def k0_dev37 (d0 : Dev nD) : Nat :=
  let c0_i32_1165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1164 : BitVec 32 := 1#32
  let v1369 : BitVec 32 := Scalar.muli v24 c1_i32_1164
  let v1370 : BitVec 32 := Scalar.addi c0_i32_1165 v1369
  v1370.toNat
def k0_dev38 (d0 : Dev nD) : Nat :=
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1198 : BitVec 32 := 1#32
  let v1404 : BitVec 32 := Scalar.muli v13 c1_i32_1198
  let v1405 : BitVec 32 := Scalar.addi c0_i32_1199 v1404
  v1405.toNat
def k0_dev39 (d0 : Dev nD) : Nat :=
  let c0_i32_1227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1226 : BitVec 32 := 1#32
  let v1436 : BitVec 32 := Scalar.muli v24 c1_i32_1226
  let v1437 : BitVec 32 := Scalar.addi c0_i32_1227 v1436
  v1437.toNat
def k0_dev40 (d0 : Dev nD) : Nat :=
  let c0_i32_1261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1260 : BitVec 32 := 1#32
  let v1471 : BitVec 32 := Scalar.muli v13 c1_i32_1260
  let v1472 : BitVec 32 := Scalar.addi c0_i32_1261 v1471
  v1472.toNat
def k0_dev41 (d0 : Dev nD) : Nat :=
  let c0_i32_1289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1288 : BitVec 32 := 1#32
  let v1503 : BitVec 32 := Scalar.muli v24 c1_i32_1288
  let v1504 : BitVec 32 := Scalar.addi c0_i32_1289 v1503
  v1504.toNat
def k0_dev42 (d0 : Dev nD) : Nat :=
  let c0_i32_1323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1322 : BitVec 32 := 1#32
  let v1538 : BitVec 32 := Scalar.muli v13 c1_i32_1322
  let v1539 : BitVec 32 := Scalar.addi c0_i32_1323 v1538
  v1539.toNat
def k0_dev43 (d0 : Dev nD) : Nat :=
  let c0_i32_1351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1350 : BitVec 32 := 1#32
  let v1570 : BitVec 32 := Scalar.muli v24 c1_i32_1350
  let v1571 : BitVec 32 := Scalar.addi c0_i32_1351 v1570
  v1571.toNat
def k0_dev44 (d0 : Dev nD) : Nat :=
  let c0_i32_1385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1384 : BitVec 32 := 1#32
  let v1605 : BitVec 32 := Scalar.muli v13 c1_i32_1384
  let v1606 : BitVec 32 := Scalar.addi c0_i32_1385 v1605
  v1606.toNat
def k0_dev45 (d0 : Dev nD) : Nat :=
  let c0_i32_1413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1412 : BitVec 32 := 1#32
  let v1637 : BitVec 32 := Scalar.muli v24 c1_i32_1412
  let v1638 : BitVec 32 := Scalar.addi c0_i32_1413 v1637
  v1638.toNat
def k0_dev46 (d0 : Dev nD) : Nat :=
  let c0_i32_1447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1446 : BitVec 32 := 1#32
  let v1672 : BitVec 32 := Scalar.muli v13 c1_i32_1446
  let v1673 : BitVec 32 := Scalar.addi c0_i32_1447 v1672
  v1673.toNat
def k0_dev47 (d0 : Dev nD) : Nat :=
  let c0_i32_1475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1474 : BitVec 32 := 1#32
  let v1704 : BitVec 32 := Scalar.muli v24 c1_i32_1474
  let v1705 : BitVec 32 := Scalar.addi c0_i32_1475 v1704
  v1705.toNat
def k0_dev48 (d0 : Dev nD) : Nat :=
  let c0_i32_1509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1508 : BitVec 32 := 1#32
  let v1739 : BitVec 32 := Scalar.muli v13 c1_i32_1508
  let v1740 : BitVec 32 := Scalar.addi c0_i32_1509 v1739
  v1740.toNat
def k0_dev49 (d0 : Dev nD) : Nat :=
  let c0_i32_1537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1536 : BitVec 32 := 1#32
  let v1771 : BitVec 32 := Scalar.muli v24 c1_i32_1536
  let v1772 : BitVec 32 := Scalar.addi c0_i32_1537 v1771
  v1772.toNat
def k0_dev50 (d0 : Dev nD) : Nat :=
  let c0_i32_1571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1570 : BitVec 32 := 1#32
  let v1806 : BitVec 32 := Scalar.muli v13 c1_i32_1570
  let v1807 : BitVec 32 := Scalar.addi c0_i32_1571 v1806
  v1807.toNat
def k0_dev51 (d0 : Dev nD) : Nat :=
  let c0_i32_1599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1598 : BitVec 32 := 1#32
  let v1838 : BitVec 32 := Scalar.muli v24 c1_i32_1598
  let v1839 : BitVec 32 := Scalar.addi c0_i32_1599 v1838
  v1839.toNat
def k0_dev52 (d0 : Dev nD) : Nat :=
  let c0_i32_1633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1632 : BitVec 32 := 1#32
  let v1873 : BitVec 32 := Scalar.muli v13 c1_i32_1632
  let v1874 : BitVec 32 := Scalar.addi c0_i32_1633 v1873
  v1874.toNat
def k0_dev53 (d0 : Dev nD) : Nat :=
  let c0_i32_1661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1660 : BitVec 32 := 1#32
  let v1905 : BitVec 32 := Scalar.muli v24 c1_i32_1660
  let v1906 : BitVec 32 := Scalar.addi c0_i32_1661 v1905
  v1906.toNat
def k0_dev54 (d0 : Dev nD) : Nat :=
  let c0_i32_1695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1694 : BitVec 32 := 1#32
  let v1940 : BitVec 32 := Scalar.muli v13 c1_i32_1694
  let v1941 : BitVec 32 := Scalar.addi c0_i32_1695 v1940
  v1941.toNat
def k0_dev55 (d0 : Dev nD) : Nat :=
  let c0_i32_1723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1722 : BitVec 32 := 1#32
  let v1972 : BitVec 32 := Scalar.muli v24 c1_i32_1722
  let v1973 : BitVec 32 := Scalar.addi c0_i32_1723 v1972
  v1973.toNat
def k0_dev56 (d0 : Dev nD) : Nat :=
  let c0_i32_1757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1756 : BitVec 32 := 1#32
  let v2007 : BitVec 32 := Scalar.muli v13 c1_i32_1756
  let v2008 : BitVec 32 := Scalar.addi c0_i32_1757 v2007
  v2008.toNat
def k0_dev57 (d0 : Dev nD) : Nat :=
  let c0_i32_1785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1784 : BitVec 32 := 1#32
  let v2039 : BitVec 32 := Scalar.muli v24 c1_i32_1784
  let v2040 : BitVec 32 := Scalar.addi c0_i32_1785 v2039
  v2040.toNat
def k0_dev58 (d0 : Dev nD) : Nat :=
  let c0_i32_1819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1818 : BitVec 32 := 1#32
  let v2074 : BitVec 32 := Scalar.muli v13 c1_i32_1818
  let v2075 : BitVec 32 := Scalar.addi c0_i32_1819 v2074
  v2075.toNat
def k0_dev59 (d0 : Dev nD) : Nat :=
  let c0_i32_1847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1846 : BitVec 32 := 1#32
  let v2106 : BitVec 32 := Scalar.muli v24 c1_i32_1846
  let v2107 : BitVec 32 := Scalar.addi c0_i32_1847 v2106
  v2107.toNat
def k0_dev60 (d0 : Dev nD) : Nat :=
  let c0_i32_1881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1880 : BitVec 32 := 1#32
  let v2141 : BitVec 32 := Scalar.muli v13 c1_i32_1880
  let v2142 : BitVec 32 := Scalar.addi c0_i32_1881 v2141
  v2142.toNat
def k0_dev61 (d0 : Dev nD) : Nat :=
  let c0_i32_1909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1908 : BitVec 32 := 1#32
  let v2173 : BitVec 32 := Scalar.muli v24 c1_i32_1908
  let v2174 : BitVec 32 := Scalar.addi c0_i32_1909 v2173
  v2174.toNat
def k0_dev62 (d0 : Dev nD) : Nat :=
  let c0_i32_1943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1942 : BitVec 32 := 1#32
  let v2208 : BitVec 32 := Scalar.muli v13 c1_i32_1942
  let v2209 : BitVec 32 := Scalar.addi c0_i32_1943 v2208
  v2209.toNat
def k0_dev63 (d0 : Dev nD) : Nat :=
  let c0_i32_1971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1970 : BitVec 32 := 1#32
  let v2240 : BitVec 32 := Scalar.muli v24 c1_i32_1970
  let v2241 : BitVec 32 := Scalar.addi c0_i32_1971 v2240
  v2241.toNat
def k0_dev64 (d0 : Dev nD) : Nat :=
  let c0_i32_2005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2004 : BitVec 32 := 1#32
  let v2275 : BitVec 32 := Scalar.muli v13 c1_i32_2004
  let v2276 : BitVec 32 := Scalar.addi c0_i32_2005 v2275
  v2276.toNat
def k0_off3 (d0 : Dev nD) (c0_i32_2007 : BitVec 32) : Fin 3 → Nat :=
  let c0_2022 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2006 : BitVec 32 := 1#32
  let v2277 : BitVec 32 := Scalar.addi v2 c1_i32_2006
  let v2278 : BitVec 32 := Scalar.subi v2277 c0_i32_2007
  let c32_i32_2008 : BitVec 32 := 32#32
  let c0_i32_2009 : BitVec 32 := 0#32
  let v2279 : BitVec 1 := Scalar.cmpi .eq c32_i32_2008 c0_i32_2009
  let c1_i32_2010 : BitVec 32 := 1#32
  let v2280 : BitVec 32 := Scalar.select v2279 c1_i32_2010 c32_i32_2008
  let v2281 : BitVec 32 := Scalar.remsi v2278 v2280
  let c0_i32_2012 : BitVec 32 := 0#32
  let v2283 : BitVec 1 := Scalar.cmpi .slt v2281 c0_i32_2012
  let c0_i32_2013 : BitVec 32 := 0#32
  let v2284 : BitVec 1 := Scalar.cmpi .slt v2280 c0_i32_2013
  let v2285 : BitVec 1 := Scalar.xori v2283 v2284
  let c0_i32_2011 : BitVec 32 := 0#32
  let v2282 : BitVec 1 := Scalar.cmpi .ne v2281 c0_i32_2011
  let v2286 : BitVec 1 := Scalar.andi v2285 v2282
  let v2287 : BitVec 32 := Scalar.addi v2281 v2280
  let v2288 : BitVec 32 := Scalar.select v2286 v2287 v2281
  let c16_i32_2021 : BitVec 32 := 16#32
  let v2300 : BitVec 32 := Scalar.muli v2288 c16_i32_2021
  let v2301 : Index := Scalar.indexCast v2300
  let c0_2023 : Index := 0#32
  ![0, v2301.toNat, 0]
def k0_dev65 (d0 : Dev nD) : Nat :=
  let c0_i32_2034 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2033 : BitVec 32 := 1#32
  let v2307 : BitVec 32 := Scalar.muli v24 c1_i32_2033
  let v2308 : BitVec 32 := Scalar.addi c0_i32_2034 v2307
  v2308.toNat
def k0_dev66 (d0 : Dev nD) : Nat :=
  let c0_i32_2066 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2065 : BitVec 32 := 1#32
  let v2338 : BitVec 32 := Scalar.muli v13 c1_i32_2065
  let v2339 : BitVec 32 := Scalar.addi c0_i32_2066 v2338
  v2339.toNat
def k0_dev67 (d0 : Dev nD) : Nat :=
  let c0_i32_2095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2094 : BitVec 32 := 1#32
  let v2370 : BitVec 32 := Scalar.muli v24 c1_i32_2094
  let v2371 : BitVec 32 := Scalar.addi c0_i32_2095 v2370
  v2371.toNat
def k0_dev68 (d0 : Dev nD) : Nat :=
  let c0_i32_2127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2126 : BitVec 32 := 1#32
  let v2401 : BitVec 32 := Scalar.muli v13 c1_i32_2126
  let v2402 : BitVec 32 := Scalar.addi c0_i32_2127 v2401
  v2402.toNat
def k0_dev69 (d0 : Dev nD) : Nat :=
  let c0_i32_2156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2155 : BitVec 32 := 1#32
  let v2433 : BitVec 32 := Scalar.muli v24 c1_i32_2155
  let v2434 : BitVec 32 := Scalar.addi c0_i32_2156 v2433
  v2434.toNat
def k0_dev70 (d0 : Dev nD) : Nat :=
  let c0_i32_2188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2187 : BitVec 32 := 1#32
  let v2464 : BitVec 32 := Scalar.muli v13 c1_i32_2187
  let v2465 : BitVec 32 := Scalar.addi c0_i32_2188 v2464
  v2465.toNat
def k0_dev71 (d0 : Dev nD) : Nat :=
  let c0_i32_2217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2216 : BitVec 32 := 1#32
  let v2496 : BitVec 32 := Scalar.muli v24 c1_i32_2216
  let v2497 : BitVec 32 := Scalar.addi c0_i32_2217 v2496
  v2497.toNat
def k0_dev72 (d0 : Dev nD) : Nat :=
  let c0_i32_2249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2248 : BitVec 32 := 1#32
  let v2527 : BitVec 32 := Scalar.muli v13 c1_i32_2248
  let v2528 : BitVec 32 := Scalar.addi c0_i32_2249 v2527
  v2528.toNat
def k0_dev73 (d0 : Dev nD) : Nat :=
  let c0_i32_2278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2277 : BitVec 32 := 1#32
  let v2559 : BitVec 32 := Scalar.muli v24 c1_i32_2277
  let v2560 : BitVec 32 := Scalar.addi c0_i32_2278 v2559
  v2560.toNat
def k0_dev74 (d0 : Dev nD) : Nat :=
  let c0_i32_2310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2309 : BitVec 32 := 1#32
  let v2590 : BitVec 32 := Scalar.muli v13 c1_i32_2309
  let v2591 : BitVec 32 := Scalar.addi c0_i32_2310 v2590
  v2591.toNat
def k0_dev75 (d0 : Dev nD) : Nat :=
  let c0_i32_2339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2338 : BitVec 32 := 1#32
  let v2622 : BitVec 32 := Scalar.muli v24 c1_i32_2338
  let v2623 : BitVec 32 := Scalar.addi c0_i32_2339 v2622
  v2623.toNat
def k0_dev76 (d0 : Dev nD) : Nat :=
  let c0_i32_2371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2370 : BitVec 32 := 1#32
  let v2653 : BitVec 32 := Scalar.muli v13 c1_i32_2370
  let v2654 : BitVec 32 := Scalar.addi c0_i32_2371 v2653
  v2654.toNat
def k0_dev77 (d0 : Dev nD) : Nat :=
  let c0_i32_2400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2399 : BitVec 32 := 1#32
  let v2685 : BitVec 32 := Scalar.muli v24 c1_i32_2399
  let v2686 : BitVec 32 := Scalar.addi c0_i32_2400 v2685
  v2686.toNat
def k0_dev78 (d0 : Dev nD) : Nat :=
  let c0_i32_2432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2431 : BitVec 32 := 1#32
  let v2716 : BitVec 32 := Scalar.muli v13 c1_i32_2431
  let v2717 : BitVec 32 := Scalar.addi c0_i32_2432 v2716
  v2717.toNat
def k0_dev79 (d0 : Dev nD) : Nat :=
  let c0_i32_2461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2460 : BitVec 32 := 1#32
  let v2748 : BitVec 32 := Scalar.muli v24 c1_i32_2460
  let v2749 : BitVec 32 := Scalar.addi c0_i32_2461 v2748
  v2749.toNat
def k0_dev80 (d0 : Dev nD) : Nat :=
  let c0_i32_2493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2492 : BitVec 32 := 1#32
  let v2779 : BitVec 32 := Scalar.muli v13 c1_i32_2492
  let v2780 : BitVec 32 := Scalar.addi c0_i32_2493 v2779
  v2780.toNat
def k0_dev81 (d0 : Dev nD) : Nat :=
  let c0_i32_2522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2521 : BitVec 32 := 1#32
  let v2811 : BitVec 32 := Scalar.muli v24 c1_i32_2521
  let v2812 : BitVec 32 := Scalar.addi c0_i32_2522 v2811
  v2812.toNat
def k0_dev82 (d0 : Dev nD) : Nat :=
  let c0_i32_2554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2553 : BitVec 32 := 1#32
  let v2842 : BitVec 32 := Scalar.muli v13 c1_i32_2553
  let v2843 : BitVec 32 := Scalar.addi c0_i32_2554 v2842
  v2843.toNat
def k0_dev83 (d0 : Dev nD) : Nat :=
  let c0_i32_2583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2582 : BitVec 32 := 1#32
  let v2874 : BitVec 32 := Scalar.muli v24 c1_i32_2582
  let v2875 : BitVec 32 := Scalar.addi c0_i32_2583 v2874
  v2875.toNat
def k0_dev84 (d0 : Dev nD) : Nat :=
  let c0_i32_2615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2614 : BitVec 32 := 1#32
  let v2905 : BitVec 32 := Scalar.muli v13 c1_i32_2614
  let v2906 : BitVec 32 := Scalar.addi c0_i32_2615 v2905
  v2906.toNat
def k0_dev85 (d0 : Dev nD) : Nat :=
  let c0_i32_2644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2643 : BitVec 32 := 1#32
  let v2937 : BitVec 32 := Scalar.muli v24 c1_i32_2643
  let v2938 : BitVec 32 := Scalar.addi c0_i32_2644 v2937
  v2938.toNat
def k0_dev86 (d0 : Dev nD) : Nat :=
  let c0_i32_2676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2675 : BitVec 32 := 1#32
  let v2968 : BitVec 32 := Scalar.muli v13 c1_i32_2675
  let v2969 : BitVec 32 := Scalar.addi c0_i32_2676 v2968
  v2969.toNat
def k0_dev87 (d0 : Dev nD) : Nat :=
  let c0_i32_2705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2704 : BitVec 32 := 1#32
  let v3000 : BitVec 32 := Scalar.muli v24 c1_i32_2704
  let v3001 : BitVec 32 := Scalar.addi c0_i32_2705 v3000
  v3001.toNat
def k0_dev88 (d0 : Dev nD) : Nat :=
  let c0_i32_2737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2736 : BitVec 32 := 1#32
  let v3031 : BitVec 32 := Scalar.muli v13 c1_i32_2736
  let v3032 : BitVec 32 := Scalar.addi c0_i32_2737 v3031
  v3032.toNat
def k0_dev89 (d0 : Dev nD) : Nat :=
  let c0_i32_2766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2765 : BitVec 32 := 1#32
  let v3063 : BitVec 32 := Scalar.muli v24 c1_i32_2765
  let v3064 : BitVec 32 := Scalar.addi c0_i32_2766 v3063
  v3064.toNat
def k0_dev90 (d0 : Dev nD) : Nat :=
  let c0_i32_2798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2797 : BitVec 32 := 1#32
  let v3094 : BitVec 32 := Scalar.muli v13 c1_i32_2797
  let v3095 : BitVec 32 := Scalar.addi c0_i32_2798 v3094
  v3095.toNat
def k0_dev91 (d0 : Dev nD) : Nat :=
  let c0_i32_2827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2826 : BitVec 32 := 1#32
  let v3126 : BitVec 32 := Scalar.muli v24 c1_i32_2826
  let v3127 : BitVec 32 := Scalar.addi c0_i32_2827 v3126
  v3127.toNat
def k0_dev92 (d0 : Dev nD) : Nat :=
  let c0_i32_2859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2858 : BitVec 32 := 1#32
  let v3157 : BitVec 32 := Scalar.muli v13 c1_i32_2858
  let v3158 : BitVec 32 := Scalar.addi c0_i32_2859 v3157
  v3158.toNat
def k0_dev93 (d0 : Dev nD) : Nat :=
  let c0_i32_2888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2887 : BitVec 32 := 1#32
  let v3189 : BitVec 32 := Scalar.muli v24 c1_i32_2887
  let v3190 : BitVec 32 := Scalar.addi c0_i32_2888 v3189
  v3190.toNat
def k0_dev94 (d0 : Dev nD) : Nat :=
  let c0_i32_2920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2919 : BitVec 32 := 1#32
  let v3220 : BitVec 32 := Scalar.muli v13 c1_i32_2919
  let v3221 : BitVec 32 := Scalar.addi c0_i32_2920 v3220
  v3221.toNat
def k0_dev95 (d0 : Dev nD) : Nat :=
  let c0_i32_2949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2948 : BitVec 32 := 1#32
  let v3252 : BitVec 32 := Scalar.muli v24 c1_i32_2948
  let v3253 : BitVec 32 := Scalar.addi c0_i32_2949 v3252
  v3253.toNat
def k0_dev96 (d0 : Dev nD) : Nat :=
  let c0_i32_2981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2980 : BitVec 32 := 1#32
  let v3283 : BitVec 32 := Scalar.muli v13 c1_i32_2980
  let v3284 : BitVec 32 := Scalar.addi c0_i32_2981 v3283
  v3284.toNat
def k0_dev97 (d0 : Dev nD) : Nat :=
  let c0_i32_3010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3009 : BitVec 32 := 1#32
  let v3315 : BitVec 32 := Scalar.muli v24 c1_i32_3009
  let v3316 : BitVec 32 := Scalar.addi c0_i32_3010 v3315
  v3316.toNat
def k0_dev98 (d0 : Dev nD) : Nat :=
  let c0_i32_3042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3041 : BitVec 32 := 1#32
  let v3346 : BitVec 32 := Scalar.muli v13 c1_i32_3041
  let v3347 : BitVec 32 := Scalar.addi c0_i32_3042 v3346
  v3347.toNat
def k0_dev99 (d0 : Dev nD) : Nat :=
  let c0_i32_3071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3070 : BitVec 32 := 1#32
  let v3378 : BitVec 32 := Scalar.muli v24 c1_i32_3070
  let v3379 : BitVec 32 := Scalar.addi c0_i32_3071 v3378
  v3379.toNat
def k0_dev100 (d0 : Dev nD) : Nat :=
  let c0_i32_3103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3102 : BitVec 32 := 1#32
  let v3409 : BitVec 32 := Scalar.muli v13 c1_i32_3102
  let v3410 : BitVec 32 := Scalar.addi c0_i32_3103 v3409
  v3410.toNat
def k0_dev101 (d0 : Dev nD) : Nat :=
  let c0_i32_3132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3131 : BitVec 32 := 1#32
  let v3441 : BitVec 32 := Scalar.muli v24 c1_i32_3131
  let v3442 : BitVec 32 := Scalar.addi c0_i32_3132 v3441
  v3442.toNat
def k0_dev102 (d0 : Dev nD) : Nat :=
  let c0_i32_3164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3163 : BitVec 32 := 1#32
  let v3472 : BitVec 32 := Scalar.muli v13 c1_i32_3163
  let v3473 : BitVec 32 := Scalar.addi c0_i32_3164 v3472
  v3473.toNat
def k0_dev103 (d0 : Dev nD) : Nat :=
  let c0_i32_3193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3192 : BitVec 32 := 1#32
  let v3504 : BitVec 32 := Scalar.muli v24 c1_i32_3192
  let v3505 : BitVec 32 := Scalar.addi c0_i32_3193 v3504
  v3505.toNat
def k0_dev104 (d0 : Dev nD) : Nat :=
  let c0_i32_3225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3224 : BitVec 32 := 1#32
  let v3535 : BitVec 32 := Scalar.muli v13 c1_i32_3224
  let v3536 : BitVec 32 := Scalar.addi c0_i32_3225 v3535
  v3536.toNat
def k0_dev105 (d0 : Dev nD) : Nat :=
  let c0_i32_3254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3253 : BitVec 32 := 1#32
  let v3567 : BitVec 32 := Scalar.muli v24 c1_i32_3253
  let v3568 : BitVec 32 := Scalar.addi c0_i32_3254 v3567
  v3568.toNat
def k0_dev106 (d0 : Dev nD) : Nat :=
  let c0_i32_3286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3285 : BitVec 32 := 1#32
  let v3598 : BitVec 32 := Scalar.muli v13 c1_i32_3285
  let v3599 : BitVec 32 := Scalar.addi c0_i32_3286 v3598
  v3599.toNat
def k0_dev107 (d0 : Dev nD) : Nat :=
  let c0_i32_3315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3314 : BitVec 32 := 1#32
  let v3630 : BitVec 32 := Scalar.muli v24 c1_i32_3314
  let v3631 : BitVec 32 := Scalar.addi c0_i32_3315 v3630
  v3631.toNat
def k0_dev108 (d0 : Dev nD) : Nat :=
  let c0_i32_3347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3346 : BitVec 32 := 1#32
  let v3661 : BitVec 32 := Scalar.muli v13 c1_i32_3346
  let v3662 : BitVec 32 := Scalar.addi c0_i32_3347 v3661
  v3662.toNat
def k0_dev109 (d0 : Dev nD) : Nat :=
  let c0_i32_3376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3375 : BitVec 32 := 1#32
  let v3693 : BitVec 32 := Scalar.muli v24 c1_i32_3375
  let v3694 : BitVec 32 := Scalar.addi c0_i32_3376 v3693
  v3694.toNat
def k0_dev110 (d0 : Dev nD) : Nat :=
  let c0_i32_3408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3407 : BitVec 32 := 1#32
  let v3724 : BitVec 32 := Scalar.muli v13 c1_i32_3407
  let v3725 : BitVec 32 := Scalar.addi c0_i32_3408 v3724
  v3725.toNat
def k0_dev111 (d0 : Dev nD) : Nat :=
  let c0_i32_3437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3436 : BitVec 32 := 1#32
  let v3756 : BitVec 32 := Scalar.muli v24 c1_i32_3436
  let v3757 : BitVec 32 := Scalar.addi c0_i32_3437 v3756
  v3757.toNat
def k0_dev112 (d0 : Dev nD) : Nat :=
  let c0_i32_3469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3468 : BitVec 32 := 1#32
  let v3787 : BitVec 32 := Scalar.muli v13 c1_i32_3468
  let v3788 : BitVec 32 := Scalar.addi c0_i32_3469 v3787
  v3788.toNat
def k0_dev113 (d0 : Dev nD) : Nat :=
  let c0_i32_3498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3497 : BitVec 32 := 1#32
  let v3819 : BitVec 32 := Scalar.muli v24 c1_i32_3497
  let v3820 : BitVec 32 := Scalar.addi c0_i32_3498 v3819
  v3820.toNat
def k0_dev114 (d0 : Dev nD) : Nat :=
  let c0_i32_3530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3529 : BitVec 32 := 1#32
  let v3850 : BitVec 32 := Scalar.muli v13 c1_i32_3529
  let v3851 : BitVec 32 := Scalar.addi c0_i32_3530 v3850
  v3851.toNat
def k0_dev115 (d0 : Dev nD) : Nat :=
  let c0_i32_3559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3558 : BitVec 32 := 1#32
  let v3882 : BitVec 32 := Scalar.muli v24 c1_i32_3558
  let v3883 : BitVec 32 := Scalar.addi c0_i32_3559 v3882
  v3883.toNat
def k0_dev116 (d0 : Dev nD) : Nat :=
  let c0_i32_3591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3590 : BitVec 32 := 1#32
  let v3913 : BitVec 32 := Scalar.muli v13 c1_i32_3590
  let v3914 : BitVec 32 := Scalar.addi c0_i32_3591 v3913
  v3914.toNat
def k0_dev117 (d0 : Dev nD) : Nat :=
  let c0_i32_3620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3619 : BitVec 32 := 1#32
  let v3945 : BitVec 32 := Scalar.muli v24 c1_i32_3619
  let v3946 : BitVec 32 := Scalar.addi c0_i32_3620 v3945
  v3946.toNat
def k0_dev118 (d0 : Dev nD) : Nat :=
  let c0_i32_3652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3651 : BitVec 32 := 1#32
  let v3976 : BitVec 32 := Scalar.muli v13 c1_i32_3651
  let v3977 : BitVec 32 := Scalar.addi c0_i32_3652 v3976
  v3977.toNat
def k0_dev119 (d0 : Dev nD) : Nat :=
  let c0_i32_3681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3680 : BitVec 32 := 1#32
  let v4008 : BitVec 32 := Scalar.muli v24 c1_i32_3680
  let v4009 : BitVec 32 := Scalar.addi c0_i32_3681 v4008
  v4009.toNat
def k0_dev120 (d0 : Dev nD) : Nat :=
  let c0_i32_3713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3712 : BitVec 32 := 1#32
  let v4039 : BitVec 32 := Scalar.muli v13 c1_i32_3712
  let v4040 : BitVec 32 := Scalar.addi c0_i32_3713 v4039
  v4040.toNat
def k0_dev121 (d0 : Dev nD) : Nat :=
  let c0_i32_3742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3741 : BitVec 32 := 1#32
  let v4071 : BitVec 32 := Scalar.muli v24 c1_i32_3741
  let v4072 : BitVec 32 := Scalar.addi c0_i32_3742 v4071
  v4072.toNat
def k0_dev122 (d0 : Dev nD) : Nat :=
  let c0_i32_3774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3773 : BitVec 32 := 1#32
  let v4102 : BitVec 32 := Scalar.muli v13 c1_i32_3773
  let v4103 : BitVec 32 := Scalar.addi c0_i32_3774 v4102
  v4103.toNat
def k0_dev123 (d0 : Dev nD) : Nat :=
  let c0_i32_3803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3802 : BitVec 32 := 1#32
  let v4134 : BitVec 32 := Scalar.muli v24 c1_i32_3802
  let v4135 : BitVec 32 := Scalar.addi c0_i32_3803 v4134
  v4135.toNat
def k0_dev124 (d0 : Dev nD) : Nat :=
  let c0_i32_3861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3860 : BitVec 32 := 1#32
  let v4195 : BitVec 32 := Scalar.muli v24 c1_i32_3860
  let v4196 : BitVec 32 := Scalar.addi c0_i32_3861 v4195
  v4196.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x512x1024 : Shape := ⟨3, ![1, 512, 1024]⟩
abbrev S1024x32768 : Shape := ⟨2, ![1024, 32768]⟩
abbrev S1024x8192 : Shape := ⟨2, ![1024, 8192]⟩
abbrev S32768x1024 : Shape := ⟨2, ![32768, 1024]⟩
abbrev S1x512x32768 : Shape := ⟨3, ![1, 512, 32768]⟩
abbrev S1x512x256x128 : Shape := ⟨4, ![1, 512, 256, 128]⟩
abbrev S1x512x8192 : Shape := ⟨3, ![1, 512, 8192]⟩
abbrev S1x512x64x128 : Shape := ⟨4, ![1, 512, 64, 128]⟩
abbrev S1x512x64x4x128 : Shape := ⟨5, ![1, 512, 64, 4, 128]⟩
abbrev S_ : Shape := ⟨0, ![]⟩
abbrev S1x256x512x1 : Shape := ⟨4, ![1, 256, 512, 1]⟩
abbrev S1x256x512x512 : Shape := ⟨4, ![1, 256, 512, 512]⟩
abbrev S1x256x512 : Shape := ⟨3, ![1, 256, 512]⟩
abbrev S1x512x256x1 : Shape := ⟨4, ![1, 512, 256, 1]⟩
abbrev S1x256x128x512 : Shape := ⟨4, ![1, 256, 128, 512]⟩

abbrev nBuf : Space → Nat
  | .hbm => 50
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x32768, .f32⟩
  | .hbm, ⟨2, _⟩ => ⟨S1024x8192, .f32⟩
  | .hbm, ⟨3, _⟩ => ⟨S1024x8192, .f32⟩
  | .hbm, ⟨4, _⟩ => ⟨S32768x1024, .f32⟩
  | .hbm, ⟨5, _⟩ => ⟨S1x512x32768, .f32⟩
  | .hbm, ⟨6, _⟩ => ⟨S1x512x256x128, .f32⟩
  | .hbm, ⟨7, _⟩ => ⟨S1x512x8192, .f32⟩
  | .hbm, ⟨8, _⟩ => ⟨S1x512x64x128, .f32⟩
  | .hbm, ⟨9, _⟩ => ⟨S1x512x8192, .f32⟩
  | .hbm, ⟨10, _⟩ => ⟨S1x512x64x128, .f32⟩
  | .hbm, ⟨11, _⟩ => ⟨S1x512x64x4x128, .f32⟩
  | .hbm, ⟨12, _⟩ => ⟨S1x512x256x128, .f32⟩
  | .hbm, ⟨13, _⟩ => ⟨S1x512x64x4x128, .f32⟩
  | .hbm, ⟨14, _⟩ => ⟨S1x512x256x128, .f32⟩
  | .hbm, ⟨15, _⟩ => ⟨S_, .f32⟩
  | .hbm, ⟨16, _⟩ => ⟨S1x512x256x128, .f32⟩
  | .hbm, ⟨17, _⟩ => ⟨S_, .f32⟩
  | .hbm, ⟨18, _⟩ => ⟨S1x256x512x1, .f32⟩
  | .hbm, ⟨19, _⟩ => ⟨S_, .f32⟩
  | .hbm, ⟨20, _⟩ => ⟨S1x256x512x1, .f32⟩
  | .hbm, ⟨21, _⟩ => ⟨S1x256x512x512, .f32⟩
  | .hbm, ⟨22, _⟩ => ⟨S_, .f32⟩
  | .hbm, ⟨23, _⟩ => ⟨S1x256x512x512, .f32⟩
  | .hbm, ⟨24, _⟩ => ⟨S1x256x512x512, .f32⟩
  | .hbm, ⟨25, _⟩ => ⟨S_, .f32⟩
  | .hbm, ⟨26, _⟩ => ⟨S1x256x512, .f32⟩
  | .hbm, ⟨27, _⟩ => ⟨S1x256x512x1, .f32⟩
  | .hbm, ⟨28, _⟩ => ⟨S1x256x512x1, .f32⟩
  | .hbm, ⟨29, _⟩ => ⟨S1x256x512x1, .f32⟩
  | .hbm, ⟨30, _⟩ => ⟨S1x256x512x1, .f32⟩
  | .hbm, ⟨31, _⟩ => ⟨S1x256x512x512, .f32⟩
  | .hbm, ⟨32, _⟩ => ⟨S1x256x512x512, .f32⟩
  | .hbm, ⟨33, _⟩ => ⟨S1x256x512x512, .f32⟩
  | .hbm, ⟨34, _⟩ => ⟨S1x256x512x1, .f32⟩
  | .hbm, ⟨35, _⟩ => ⟨S_, .f32⟩
  | .hbm, ⟨36, _⟩ => ⟨S1x256x512, .f32⟩
  | .hbm, ⟨37, _⟩ => ⟨S1x256x512x1, .f32⟩
  | .hbm, ⟨38, _⟩ => ⟨S1x256x512x1, .f32⟩
  | .hbm, ⟨39, _⟩ => ⟨S1x512x256x1, .f32⟩
  | .hbm, ⟨40, _⟩ => ⟨S1x512x256x128, .f32⟩
  | .hbm, ⟨41, _⟩ => ⟨S1x512x256x128, .f32⟩
  | .hbm, ⟨42, _⟩ => ⟨S1x256x128x512, .f32⟩
  | .hbm, ⟨43, _⟩ => ⟨S1x512x256x128, .f32⟩
  | .hbm, ⟨44, _⟩ => ⟨S1x512x256x128, .f32⟩
  | .hbm, ⟨45, _⟩ => ⟨S1x512x256x1, .f32⟩
  | .hbm, ⟨46, _⟩ => ⟨S1x512x256x128, .f32⟩
  | .hbm, ⟨47, _⟩ => ⟨S1x512x256x128, .f32⟩
  | .hbm, ⟨48, _⟩ => ⟨S1x512x32768, .f32⟩
  | .hbm, ⟨49, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Steps.lean ====
/- The kernel's body as a chain of steps. The printed body lists its sixty-two ring steps one after the
   other; here one step is written once, at a symbolic step number, and the body is shown to be the
   attention part, the barrier and the chain of the steps. -/
module

public import proofs.«01_k».proof.Proof.Gen.KernelIdeal.Skeleton
public import proofs.«01_k».proof.Proof.Gen.KernelIdeal.Points

@[expose] public section

noncomputable section

namespace Cert.Proof

open Cert.KernelIdeal Cert.KernelIdeal.Gen
open Idealize.ShloMosaic Idealize.ShloMosaic.TcCoe
open Idealize.SL Idealize.SL.Sem

variable {F : FTy → Type} [FloatOps F]

/-- Programs of the kernel's TensorCore that return nothing. -/
abbrev Pg (F : FTy → Type) : Type 1 := Prog (TpuEff nD τ sig (Elt F) Λ₀ .tc) PUnit

/-! ## Windows of the ring's buffers -/

/-- Where slot `b` of the two-slot buffers begins. -/
abbrev slotOff (b : Fin 2) : Fin 3 → Nat := ![b.val, 0, 0]

theorem slot_inb (b : Fin 2) : ∀ a, slotOff b a + S1x16x1024.size a ≤ S2x16x1024.size a := by
  revert b; decide

theorem sem_inb (b : Fin 2) : ∀ a, (![b.val] : Fin 1 → Nat) a + S1.size a ≤ S2.size a := by
  revert b; decide

/-- Slot `b` of a two-slot buffer, as a rectangle. -/
abbrev slotRect (b : Fin 2) : Rect S2x16x1024 :=
  Rect.unit (s := S2x16x1024) (slotOff b) S1x16x1024.size (slot_inb b)

/-- Slot `b` of a two-slot buffer as the copies and their waits name it. -/
abbrev slotRef (a : Memref sig .tc .vmem S2x16x1024 .f32) (b : Fin 2) :
    Memref sig .tc .vmem S16x1024 .f32 :=
  (a.slice (slotRect b) (fun _ => rfl)).squeeze S16x1024 squeezes_S1x16x1024_S16x1024

/-- The semaphore of slot `b`. -/
abbrev slotSem (a : DmaSems sig S2) (b : Fin 2) : DmaSem sig :=
  ((a.slice (Rect.unit (s := S2) ![b.val] S1.size (sem_inb b))).squeeze S_ squeezes_S1_S_).sem

/-- Sixteen rows of the result, beginning where `o` says. -/
abbrev rowRect (o : Fin 3 → Nat) (h : ∀ a, o a + S1x16x1024.size a ≤ S1x512x1024.size a) :
    Rect S1x512x1024 :=
  Rect.unit (s := S1x512x1024) o S1x16x1024.size h

/-- The right and the left neighbour on the ring, as the kernel computes them. -/
abbrev rightOf (d : Dev nD) : Dev nD := ⟨k0_dev2 d, k0_dev2_lt d⟩
abbrev leftOf (d : Dev nD) : Dev nD := ⟨k0_dev1 d, k0_dev1_lt d⟩

/-! ## One step -/

section Step
variable (arg5 : Memref sig .tc .vmem S1x512x1024 .f32)
  (arg7 arg8 : Memref sig .tc .vmem S2x16x1024 .f32)
  (arg9 arg10 : DmaSems sig S2) (arg11 : Sems sig S_)

/-- Wait for one credit, if the step has to. -/
def creditK (wt : Bool) (k : Pg F) : Pg F :=
  match wt with
  | true => .op (.semWait arg11.sem ((1 : ℕ) : ℤ)) fun _ => k
  | false => k

/-- Give one credit to device `dst`, if the step has to. -/
def grantK (dst : Dev nD) (sg : Bool) (k : Pg F) : Pg F :=
  match sg with
  | true => .op (.semSignal (dst, .tc) arg11.sem ((1 : ℕ) : ℤ)) fun _ => k
  | false => k

/-- The sending half of a step: the rows at `o` go to slot `b` of the send buffer, and from there to
    slot `b` of the receive buffer of `dst`; both ends of the copy are waited for. -/
def sendK (dst : Dev nD) (o : Fin 3 → Nat)
    (h : ∀ a, o a + S1x16x1024.size a ≤ S1x512x1024.size a) (b : Fin 2) (wt : Bool) (k : Pg F) : Pg F :=
  .op (.load arg5 (rowRect o h).toLoadRect (View.loadsAt_vmem h_S1x16x1024)) fun v =>
  .op (.load arg7 (slotRect b).toLoadRect (View.loadsAt_vmem h_S1x16x1024)) fun _ =>
  .op (.store arg7 (slotRect b)
    (shapeCast S1x16x1024 (shapeCast S16x1024 v shapeCasts_S1x16x1024_S16x1024)
      shapeCasts_S16x1024_S1x16x1024) Finset.univ (View.stores_vmem_bits_univ h_S1x16x1024 rfl)
      (.inl rfl)) fun _ =>
  creditK arg11 wt
  (.op (.enqueueDma (slotRef arg7 b) (.remote (Dev.tc dst) (slotRef arg8 b) (.dma (slotSem arg9 b)))
    (.dma (slotSem arg10 b)) ((View.wordExact_bits rfl).reshape _ _)
    ((View.wordExact_bits rfl).reshape _ _) ⟨⟨rfl, Or.inl rfl⟩, trivial⟩) fun _ =>
  .op (.waitDma2 (slotSem arg9 b) (slotRef arg8 b) (slotRef arg7 b)
    ((View.wordExact_bits rfl).reshape _ _) ((View.wordExact_bits rfl).reshape _ _)) fun _ =>
  .op (.waitDma2 (slotSem arg10 b) (slotRef arg7 b) (slotRef arg8 b)
    ((View.wordExact_bits rfl).reshape _ _) ((View.wordExact_bits rfl).reshape _ _)) fun _ => k)

/-- The receiving half of a reduce-scatter step: add what came into slot `b` to the rows at `o`. -/
def addK (o : Fin 3 → Nat)
    (h : ∀ a, o a + S1x16x1024.size a ≤ S1x512x1024.size a) (b : Fin 2) (k : Pg F) : Pg F :=
  .op (.load arg5 (rowRect o h).toLoadRect (View.loadsAt_vmem h_S1x16x1024)) fun v =>
  .op (.load arg8 (slotRect b).toLoadRect (View.loadsAt_vmem h_S1x16x1024)) fun w =>
  .op (.load arg5 (rowRect o h).toLoadRect (View.loadsAt_vmem h_S1x16x1024)) fun _ =>
  .op (.store arg5 (rowRect o h)
    (shapeCast S1x16x1024 (addf (shapeCast S16x1024 v shapeCasts_S1x16x1024_S16x1024)
      (shapeCast S16x1024 w shapeCasts_S1x16x1024_S16x1024))
      shapeCasts_S16x1024_S1x16x1024) Finset.univ (View.stores_vmem_bits_univ h_S1x16x1024 rfl)
      (.inl rfl)) fun _ => k

/-- The receiving half of an all-gather step: copy what came into slot `b` to the rows at `o`. -/
def copyK (o : Fin 3 → Nat)
    (h : ∀ a, o a + S1x16x1024.size a ≤ S1x512x1024.size a) (b : Fin 2) (k : Pg F) : Pg F :=
  .op (.load arg8 (slotRect b).toLoadRect (View.loadsAt_vmem h_S1x16x1024)) fun w =>
  .op (.load arg5 (rowRect o h).toLoadRect (View.loadsAt_vmem h_S1x16x1024)) fun _ =>
  .op (.store arg5 (rowRect o h)
    (shapeCast S1x16x1024 (shapeCast S16x1024 w shapeCasts_S1x16x1024_S16x1024)
      shapeCasts_S16x1024_S1x16x1024) Finset.univ (View.stores_vmem_bits_univ h_S1x16x1024 rfl)
      (.inl rfl)) fun _ => k

/-- Step `p` of the reduce-scatter on device `d`. -/
def rsStep (d : Dev nD) (p : Fin 31) (k : Pg F) : Pg F :=
  sendK arg5 arg7 arg8 arg9 arg10 arg11 (rightOf d) (k0_off1 d (BitVec.ofNat 32 p.val))
    (k0_off1_inb d p) ⟨p.val % 2, Nat.mod_lt _ (by decide)⟩ (decide (2 ≤ p.val))
  (addK arg5 arg8 (k0_off2 d (BitVec.ofNat 32 p.val)) (k0_off2_inb d p)
    ⟨p.val % 2, Nat.mod_lt _ (by decide)⟩
  (grantK arg11 (leftOf d) true k))

/-- Step `t` of the all-gather on device `d`. -/
def agStep (d : Dev nD) (t : Fin 31) (k : Pg F) : Pg F :=
  sendK arg5 arg7 arg8 arg9 arg10 arg11 (rightOf d) (k0_off3 d (BitVec.ofNat 32 t.val))
    (k0_off3_inb d t) ⟨(t.val + 1) % 2, Nat.mod_lt _ (by decide)⟩ true
  (copyK arg5 arg8 (k0_off1 d (BitVec.ofNat 32 t.val)) (k0_off1_inb d t)
    ⟨(t.val + 1) % 2, Nat.mod_lt _ (by decide)⟩
  (grantK arg11 (leftOf d) (decide (t.val < 29)) k))

/-- The last `n` steps of the reduce-scatter, then `k`. -/
def rsFrom (d : Dev nD) (k : Pg F) : (n : ℕ) → n ≤ 31 → Pg F
  | 0, _ => k
  | n + 1, h => rsStep arg5 arg7 arg8 arg9 arg10 arg11 d ⟨30 - n, by omega⟩ (rsFrom d k n (by omega))

/-- The last `n` steps of the all-gather, then `k`. -/
def agFrom (d : Dev nD) (k : Pg F) : (n : ℕ) → n ≤ 31 → Pg F
  | 0, _ => k
  | n + 1, h => agStep arg5 arg7 arg8 arg9 arg10 arg11 d ⟨30 - n, by omega⟩ (agFrom d k n (by omega))

/-- The handshake with both neighbours, then `k`. -/
def barrierK (d : Dev nD) (k : Pg F) : Pg F :=
  .op (.semSignal (leftOf d, .tc) (SemArray.scalar (sig.barrier 0 rfl) : Sems sig S_).sem
    ((1 : ℕ) : ℤ)) fun _ =>
  .op (.semSignal (rightOf d, .tc) (SemArray.scalar (sig.barrier 0 rfl) : Sems sig S_).sem
    ((1 : ℕ) : ℤ)) fun _ =>
  .op (.semWait (SemArray.scalar (sig.barrier 0 rfl) : Sems sig S_).sem
    ((2 : ℕ) : ℤ)) fun _ => k

/-- All sixty-two steps. -/
def ringK (d : Dev nD) : Pg F :=
  rsFrom arg5 arg7 arg8 arg9 arg10 arg11 d
    (agFrom arg5 arg7 arg8 arg9 arg10 arg11 d (.ret ⟨⟩) 31 (by decide)) 31 (by decide)

end Step

/-! ## The attention part -/

section Attn
variable (arg0 : Memref sig .tc .vmem S1x512x1024 .f32)
  (arg1 arg2 : Memref sig .tc .vmem S1024x1024 .f32)
  (arg3 arg4 : Memref sig .tc .vmem S1024x256 .f32)
  (arg5 : Memref sig .tc .vmem S1x512x1024 .f32)
  (arg6 : Memref sig .tc .vmem S512x1024 .f32)

/-- Store one head's result at column `o`. -/
def headK (o : Nat) (h : ∀ a, (![0, o] : Fin 2 → Nat) a + S512x128.size a ≤ S512x1024.size a)
    (v : FVec F S512x128 .f32) (k : Pg F) : Pg F :=
  .op (.load arg6 (Rect.unit (s := S512x1024) ![0, o] S512x128.size h).toLoadRect
    (View.loadsAt_vmem h_S512x128)) fun _ =>
  .op (.store arg6 (Rect.unit (s := S512x1024) ![0, o] S512x128.size h) v Finset.univ
    (View.stores_vmem_bits_univ h_S512x128 rfl) (.inl rfl)) fun _ => k

/-- The device's partial result, then `k`. -/
def attnK (k : Pg F) : Pg F :=
  .op (.load arg0 (Rect.unit (s := S1x512x1024) ![0, 0, 0] S1x512x1024.size
    inb_S1x512x1024_S1x512x1024_0_0_0).toLoadRect (View.loadsAt_vmem h_S1x512x1024)) fun x =>
  .op (.load arg1 (Rect.unit (s := S1024x1024) ![0, 0] S1024x1024.size
    inb_S1024x1024_S1024x1024_0_0).toLoadRect (View.loadsAt_vmem h_S1024x1024)) fun wq =>
  .op (.load arg3 (Rect.unit (s := S1024x256) ![0, 0] S1024x256.size
    inb_S1024x256_S1024x256_0_0).toLoadRect (View.loadsAt_vmem h_S1024x256)) fun wk =>
  .op (.load arg4 (Rect.unit (s := S1024x256) ![0, 0] S1024x256.size
    inb_S1024x256_S1024x256_0_0).toLoadRect (View.loadsAt_vmem h_S1024x256)) fun wv =>
  headK arg6 0 inb_S512x1024_S512x128_0_0 (k0_pay6 (k0_pay2 x) (k0_pay3 x wq) (k0_pay4 x wk) wv)
  (headK arg6 128 inb_S512x1024_S512x128_0_128
    (k0_pay7 (k0_pay2 x) (k0_pay3 x wq) (k0_pay4 x wk) wv)
  (headK arg6 256 inb_S512x1024_S512x128_0_256
    (k0_pay9 (k0_pay4 x wk) (k0_pay5 (k0_pay2 x) wv) (k0_pay8 (k0_pay3 x wq)))
  (headK arg6 384 inb_S512x1024_S512x128_0_384
    (k0_pay10 (k0_pay3 x wq) (k0_pay4 x wk) (k0_pay5 (k0_pay2 x) wv))
  (headK arg6 512 inb_S512x1024_S512x128_0_512
    (k0_pay14 (k0_pay11 (k0_pay5 (k0_pay2 x) wv)) (k0_pay12 (k0_pay3 x wq) (k0_pay4 x wk))
      (k0_pay13 (F := F)))
  (headK arg6 640 inb_S512x1024_S512x128_0_640
    (k0_pay15 (k0_pay3 x wq) (k0_pay4 x wk) (k0_pay5 (k0_pay2 x) wv))
  (headK arg6 768 inb_S512x1024_S512x128_0_768
    (k0_pay18 (k0_pay16 (k0_pay5 (k0_pay2 x) wv)) (k0_pay17 (k0_pay3 x wq) (k0_pay4 x wk)))
  (headK arg6 896 inb_S512x1024_S512x128_0_896
    (k0_pay19 (k0_pay3 x wq) (k0_pay4 x wk) (k0_pay5 (k0_pay2 x) wv))
  (.op (.load arg6 (Rect.unit (s := S512x1024) ![0, 0] S512x1024.size
    inb_S512x1024_S512x1024_0_0).toLoadRect (View.loadsAt_vmem h_S512x1024)) fun a =>
  .op (.load arg2 (Rect.unit (s := S1024x1024) ![0, 0] S1024x1024.size
    inb_S1024x1024_S1024x1024_0_0).toLoadRect (View.loadsAt_vmem h_S1024x1024)) fun wo =>
  .op (.load arg5 (Rect.unit (s := S1x512x1024) ![0, 0, 0] S1x512x1024.size
    inb_S1x512x1024_S1x512x1024_0_0_0).toLoadRect (View.loadsAt_vmem h_S1x512x1024)) fun _ =>
  .op (.store arg5 (Rect.unit (s := S1x512x1024) ![0, 0, 0] S1x512x1024.size
    inb_S1x512x1024_S1x512x1024_0_0_0) (k0_pay20 a wo) Finset.univ
    (View.stores_vmem_bits_univ h_S1x512x1024 rfl) (.inl rfl)) fun _ => k))))))))

end Attn

set_option maxRecDepth 100000 in
set_option maxHeartbeats 4000000 in
/-- The printed body is the attention part, the barrier and the ring. -/
theorem body_eq (arg0 : Memref sig .tc .vmem S1x512x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x512x1024 .f32) (harg5 : arg5.IsWhole) (arg6 : Memref sig .tc .vmem S512x1024 .f32) (harg6 : arg6.IsWhole) (arg7 : Memref sig .tc .vmem S2x16x1024 .f32) (harg7 : arg7.IsWhole) (arg8 : Memref sig .tc .vmem S2x16x1024 .f32) (harg8 : arg8.IsWhole) (arg9 arg10 : DmaSems sig S2) (arg11 : Sems sig S_) :
    cc0_body (F := F) arg0 harg0 arg1 harg1 arg2 harg2 arg3 harg3 arg4 harg4 arg5 harg5 arg6 harg6
      arg7 harg7 arg8 harg8 arg9 arg10 arg11 =
    .op .deviceId fun d => attnK arg0 arg1 arg2 arg3 arg4 arg5 arg6
      (barrierK d (ringK arg5 arg7 arg8 arg9 arg10 arg11 d)) := by
  rfl

end Cert.Proof
-- ==== Proof.Sched.lean ====
/- The kernel's protocol between devices: its semaphore cells, what each of their rounds hands over, what each
   device owes, in which order the waits are taken, and the contents of the result buffer between steps. -/
module

public import proofs.«01_k».proof.Proof.Steps
public import Idealize.ShloMosaic.Lib.Pipeline.RegionTalk
public import Idealize.ShloMosaic.Lib.Release
public import Idealize.ShloMosaic.Lib.Ring

@[expose] public section

set_option maxRecDepth 16384

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

/-! ## The ghost state's algebra -/

/-- A slot of a device's receive buffer. -/
abbrev SlotKey : Type := Dev nD × Fin 2

/-- The pipeline's rounds, the protocol's rounds, and the counts of the receive slots. -/
abbrev UU : Type := UR sig nD τ × (URounds (GSem nD τ sig) ℕ × USlots SlotKey)

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) :=
  (Emb.inl : Emb _ (URounds (GSem nD τ sig) ℕ × USlots SlotKey)).trans embR
abbrev ES : Emb (USlots SlotKey) (MT nD τ sig ℕ (Elt F) ℕ UU ℕ) :=
  (Emb.inr : Emb _ (URounds (GSem nD τ sig) ℕ × USlots SlotKey)).trans embR

/-! ## The ring of devices -/

abbrev nxt (c : Dev nD) : Dev nD := rightOf c
abbrev prv (c : Dev nD) : Dev nD := leftOf c

theorem prv_nxt (c : Dev nD) : prv (nxt c) = c := by revert c; decide +kernel
theorem nxt_prv (c : Dev nD) : nxt (prv c) = c := by revert c; decide +kernel

/-- The ring as a permutation of the devices. -/
def ring : Dev nD ≃ Dev nD := ⟨nxt, prv, prv_nxt, nxt_prv⟩

/-! ## Buffers and semaphores -/

abbrev outM : Memref sig .tc .vmem S1x512x1024 .f32 := Memref.whole cc0_stg5_0
abbrev attM : Memref sig .tc .vmem S512x1024 .f32 := Memref.whole cc0_scratch0
abbrev sndM : Memref sig .tc .vmem S2x16x1024 .f32 := Memref.whole cc0_scratch1
abbrev rcvM : Memref sig .tc .vmem S2x16x1024 .f32 := Memref.whole cc0_scratch2

/-- The slot a step uses. -/
abbrev bf (j : ℕ) : Fin 2 := ⟨j % 2, Nat.mod_lt _ (by decide)⟩

theorem bf_add_two (j : ℕ) : bf (j + 2) = bf j := Fin.ext (Nat.add_mod_right j 2)
theorem half_add_two (j : ℕ) : (j + 2) / 2 = j / 2 + 1 := Nat.add_div_right j (by decide)

abbrev barS : Sem sig := (SemArray.scalar (sig.barrier 0 rfl) : Sems sig S_).sem
abbrev credS : Sem sig := (cc0_scratch5 : Sems sig S_).sem
abbrev sendS (b : Fin 2) : DmaSem sig := slotSem cc0_scratch3 b
abbrev recvS (b : Fin 2) : DmaSem sig := slotSem cc0_scratch4 b

abbrev barCell (c : Dev nD) : GSem nD τ sig := ((c : Thread nD τ), .reg barS)
abbrev credCell (c : Dev nD) : GSem nD τ sig := ((c : Thread nD τ), .reg credS)
abbrev sendCell (c : Dev nD) (b : Fin 2) : GSem nD τ sig := ((c : Thread nD τ), .dma (sendS b))
abbrev recvCell (c : Dev nD) (b : Fin 2) : GSem nD τ sig := ((c : Thread nD τ), .dma (recvS b))

/-- What a semaphore of the kernel is for. -/
inductive Use
  | bar | cred | send (b : Fin 2) | recv (b : Fin 2) | other
deriving DecidableEq

def useOf (sm : SemLoc sig) : Use :=
  if sm = .reg barS then .bar
  else if sm = .reg credS then .cred
  else if sm = .dma (sendS 0) then .send 0
  else if sm = .dma (sendS 1) then .send 1
  else if sm = .dma (recvS 0) then .recv 0
  else if sm = .dma (recvS 1) then .recv 1
  else .other

theorem use_bar : useOf (.reg barS) = .bar := by decide +kernel
theorem use_cred : useOf (.reg credS) = .cred := by decide +kernel
theorem use_send (b : Fin 2) : useOf (.dma (sendS b)) = .send b := by revert b; decide +kernel
theorem use_recv (b : Fin 2) : useOf (.dma (recvS b)) = .recv b := by revert b; decide +kernel

/-- What one copy of sixteen rows credits. -/
abbrev N : ℕ := (slotRef rcvM 0).view.dmaCredit
theorem N_pos : 0 < N := View.dmaCredit_pos _ (by decide)

abbrev sPts (c : Dev nD) (b : Fin 2) (f : Buf (Elt F) ((slotRef sndM b).view.loc (c : Thread nD τ))) : sProp 𝕄 :=
  (slotRef sndM b).view.loc (c : Thread nD τ) ↦[(slotRef sndM b).view.set]{fullShare} f
abbrev rPts (c : Dev nD) (b : Fin 2) (f : Buf (Elt F) ((slotRef rcvM b).view.loc (c : Thread nD τ))) : sProp 𝕄 :=
  (slotRef rcvM b).view.loc (c : Thread nD τ) ↦[(slotRef rcvM b).view.set]{fullShare} f
abbrev outPts (c : Dev nD) (f : Buf (Elt F) (outM.view.loc (c : Thread nD τ))) : sProp 𝕄 :=
  outM.view.loc (c : Thread nD τ) ↦[Finset.univ]{fullShare} f

/-- A slot of a receive buffer at contents not named. -/
abbrev rSlot (k : SlotKey) : sProp 𝕄 :=
  Release.slot ((slotRef rcvM k.2).view.loc (k.1 : Thread nD τ)) (slotRef rcvM k.2).view.set

theorem rcv_nonempty (b : Fin 2) : (slotRef rcvM b).view.set.Nonempty :=
  View.set_nonempty (by decide)

/-! ## The result buffer between steps -/

/-- Contents of the result buffer. -/
abbrev Out (F : FTy → Type) : Type := FVec F S1x512x1024 .f32
/-- Sixteen rows on their way. -/
abbrev Msg (F : FTy → Type) : Type := FVec F S1x16x1024 .f32

/-- The rows of the result device `d` sends in step `s`. -/
def sendOff (d : Dev nD) (s : ℕ) : Fin 3 → Nat :=
  if s < 31 then k0_off1 d (BitVec.ofNat 32 s) else k0_off3 d (BitVec.ofNat 32 (s - 31))
/-- The rows of the result device `d` changes in step `s`. -/
def recvOff (d : Dev nD) (s : ℕ) : Fin 3 → Nat :=
  if s < 31 then k0_off2 d (BitVec.ofNat 32 s) else k0_off1 d (BitVec.ofNat 32 (s - 31))

theorem sendOff_inb (d : Dev nD) (s : ℕ) (h : s < 62) :
    ∀ a, sendOff d s a + S1x16x1024.size a ≤ S1x512x1024.size a := by
  unfold sendOff
  by_cases h31 : s < 31
  · rw [if_pos h31]; exact k0_off1_inb d ⟨s, h31⟩
  · rw [if_neg h31]; exact k0_off3_inb d ⟨s - 31, by omega⟩
theorem recvOff_inb (d : Dev nD) (s : ℕ) (h : s < 62) :
    ∀ a, recvOff d s a + S1x16x1024.size a ≤ S1x512x1024.size a := by
  unfold recvOff
  by_cases h31 : s < 31
  · rw [if_pos h31]; exact k0_off2_inb d ⟨s, h31⟩
  · rw [if_neg h31]; exact k0_off1_inb d ⟨s - 31, by omega⟩

/-- The sixteen rows at `o`. -/
def rows (o : Fin 3 → Nat) (h : ∀ a, o a + S1x16x1024.size a ≤ S1x512x1024.size a) (f : Out F) : Msg F :=
  (outM.access (rowRect o h)).read (Elt F) f
/-- The sixteen rows at `o` replaced. -/
def putRows (o : Fin 3 → Nat) (h : ∀ a, o a + S1x16x1024.size a ≤ S1x512x1024.size a) (f : Out F) (w : Msg F) :
    Out F :=
  (outM.access (rowRect o h)).write (Elt F) f w Finset.univ

/-- What is stored into the send buffer. -/
abbrev outPay (v : Msg F) : Msg F :=
  shapeCast S1x16x1024 (shapeCast S16x1024 v shapeCasts_S1x16x1024_S16x1024) shapeCasts_S16x1024_S1x16x1024
/-- What a reduce-scatter step stores, from its own rows and those that came. -/
abbrev addPay (v w : Msg F) : Msg F :=
  shapeCast S1x16x1024 (addf (shapeCast S16x1024 v shapeCasts_S1x16x1024_S16x1024)
      (shapeCast S16x1024 w shapeCasts_S1x16x1024_S16x1024)) shapeCasts_S16x1024_S1x16x1024

/-- What step `s` stores, from its own rows and those that came. -/
def inPay (s : ℕ) (v w : Msg F) : Msg F := if s < 31 then addPay v w else outPay w

/-- The rows device `d` sends in step `s`, its result buffer at `f`. -/
def msgOf (d : Dev nD) (s : ℕ) (f : Out F) : Msg F :=
  if h : s < 62 then outPay (rows (sendOff d s) (sendOff_inb d s h) f) else fun _ => f (fun a => ⟨0, by revert a; decide⟩)

/-- Device `c`'s result buffer after step `s`, from its contents before it and the rows that came. -/
def stepOut (c : Dev nD) (s : ℕ) (f : Out F) (w : Msg F) : Out F :=
  if h : s < 62 then putRows (recvOff c s) (recvOff_inb c s h) f (inPay s (rows (recvOff c s) (recvOff_inb c s h) f) w)
  else f

/-- Every device's result buffer before step `s`, from its partial result. -/
def outAt (P : Dev nD → Out F) : ℕ → Dev nD → Out F
  | 0, c => P c
  | s + 1, c => stepOut c s (outAt P s c) (msgOf (prv c) s (outAt P s (prv c)))

/-! ## The schedule -/

variable (P : Dev nD → Out F)

/-- Device `d` is ready for the copy of step `j`: it has released that step's slot and opened that round. -/
def ready (d : Dev nD) (j : ℕ) : sProp 𝕄 :=
  iprop(released ES ((d, bf j) : SlotKey) (j / 2 + 1) ∗ reached ER (recvCell d (bf j)) (j / 2))

instance ready_persistent (d : Dev nD) (j : ℕ) : BI.Persistent (ready (F := F) d j) := by
  unfold ready; infer_instance
instance ready_storable (d : Dev nD) (j : ℕ) : BI.Storable (upEmb : UEmb _ 𝕄) (ready (F := F) d j) := by
  unfold ready; infer_instance

/-- Paid to a barrier by the device on the right: it is ready for the first two steps. -/
def barPayR (c : Dev nD) : sProp 𝕄 := iprop(ready (nxt c) 0 ∗ ready (nxt c) 1)
/-- Paid to a barrier by the device on the left: its credit cell is open. -/
def barPayL (c : Dev nD) : sProp 𝕄 := reached ER (credCell (prv c)) 0
/-- Paid to the credit cell by the device on the right at the end of step `s`: it is ready for the next two. -/
def credPay (c : Dev nD) (s : ℕ) : sProp 𝕄 := iprop(ready (nxt c) (s + 2) ∗ ready (nxt c) (s + 1))
/-- The source of a copy back. -/
def sendPay (c : Dev nD) (b : Fin 2) : sProp 𝕄 := iprop(∃ f, sPts c b f)
/-- What round `r` of slot `b` brings: the slot, holding the rows the left neighbour sends in step `2 r + b`. -/
def recvPay (c : Dev nD) (b : Fin 2) (r : ℕ) : sProp 𝕄 :=
  iprop(∃ f, ⌜(rcvM.access (slotRect b)).read (Elt F) f = msgOf (prv c) (2 * r + b.val) (outAt P (2 * r + b.val) (prv c))⌝
    ∗ rPts c b f)

instance credPay_persistent (c : Dev nD) (s : ℕ) : BI.Persistent (credPay (F := F) c s) := by
  unfold credPay; infer_instance

def rd : Rounds.Schedule (GSem nD τ sig) ℕ 𝕄 where
  duties g r :=
    if g.1.2 = .tc then
      match useOf g.2 with
      | .bar => if r = 0 then {0, 1} else ∅
      | .cred => if r = 0 then Finset.range 60 else ∅
      | .send _ => if r < 31 then {0} else ∅
      | .recv _ => if r < 31 then {0} else ∅
      | .other => ∅
    else ∅
  unitless _ := False
  amount g _ _ := match useOf g.2 with
    | .bar => 1
    | .cred => 1
    | _ => N
  payload g r d := match useOf g.2 with
    | .bar => if d = 0 then barPayR g.1.1 else barPayL g.1.1
    | .cred => credPay g.1.1 d
    | .send b => sendPay g.1.1 b
    | .recv b => recvPay P g.1.1 b r
    | .other => iprop(emp)
  amount_pos g _ _ _ := by
    split
    · exact Nat.one_pos
    · exact Nat.one_pos
    · exact N_pos

instance rd_payload_storable (g : GSem nD τ sig) (r : ℕ) (d : ℕ) :
    BI.Storable (upEmb : UEmb _ 𝕄) ((rd (F := F) P).payload g r d) := by
  show BI.Storable upEmb (match useOf g.2 with
    | .bar => if d = 0 then barPayR g.1.1 else barPayL g.1.1
    | .cred => credPay g.1.1 d
    | .send b => sendPay g.1.1 b
    | .recv b => recvPay P g.1.1 b r
    | .other => iprop(emp))
  unfold barPayR barPayL credPay sendPay recvPay
  (repeat' split) <;> infer_instance

section Tables
variable (c : Dev nD) (b : Fin 2)

theorem duties_bar : (rd P).duties (barCell c) 0 = {0, 1} := by dsimp only [rd]; rw [if_pos rfl, use_bar]; rfl
theorem duties_cred : (rd P).duties (credCell c) 0 = Finset.range 60 := by dsimp only [rd]; rw [if_pos rfl, use_cred]; rfl
theorem duties_send {r : ℕ} (h : r < 31) : (rd P).duties (sendCell c b) r = {0} := by
  dsimp only [rd]; rw [if_pos rfl, use_send]; exact if_pos h
theorem duties_recv {r : ℕ} (h : r < 31) : (rd P).duties (recvCell c b) r = {0} := by
  dsimp only [rd]; rw [if_pos rfl, use_recv]; exact if_pos h

theorem later_bar : ∀ r, 1 ≤ r → (rd P).duties (barCell c) r = ∅ := fun r hr => by
  dsimp only [rd]; rw [if_pos rfl, use_bar]; exact if_neg (by omega)
theorem later_cred : ∀ r, 1 ≤ r → (rd P).duties (credCell c) r = ∅ := fun r hr => by
  dsimp only [rd]; rw [if_pos rfl, use_cred]; exact if_neg (by omega)
theorem later_send : ∀ r, 31 ≤ r → (rd P).duties (sendCell c b) r = ∅ := fun r hr => by
  dsimp only [rd]; rw [if_pos rfl, use_send]; exact if_neg (by omega)
theorem later_recv : ∀ r, 31 ≤ r → (rd P).duties (recvCell c b) r = ∅ := fun r hr => by
  dsimp only [rd]; rw [if_pos rfl, use_recv]; exact if_neg (by omega)

theorem amount_bar (r d : ℕ) : (rd P).amount (barCell c) r d = 1 := by dsimp only [rd]; rw [use_bar]
theorem amount_cred (r d : ℕ) : (rd P).amount (credCell c) r d = 1 := by dsimp only [rd]; rw [use_cred]
theorem amount_send (r d : ℕ) : (rd P).amount (sendCell c b) r d = N := by dsimp only [rd]; rw [use_send]
theorem amount_recv (r d : ℕ) : (rd P).amount (recvCell c b) r d = N := by dsimp only [rd]; rw [use_recv]

theorem expect_bar : (rd P).expect (barCell c) 0 = 2 := by
  unfold Schedule.expect Schedule.amountOf
  rw [duties_bar, Finset.sum_congr rfl fun d _ => amount_bar P c 0 d]; rfl
theorem expect_cred : (rd P).expect (credCell c) 0 = 60 := by
  unfold Schedule.expect Schedule.amountOf
  rw [duties_cred, Finset.sum_congr rfl fun d _ => amount_cred P c 0 d, Finset.sum_const, Finset.card_range]; rfl
theorem expect_send {r : ℕ} (h : r < 31) : (rd P).expect (sendCell c b) r = N := by
  unfold Schedule.expect Schedule.amountOf; rw [duties_send P c b h, Finset.sum_singleton, amount_send]
theorem expect_recv {r : ℕ} (h : r < 31) : (rd P).expect (recvCell c b) r = N := by
  unfold Schedule.expect Schedule.amountOf; rw [duties_recv P c b h, Finset.sum_singleton, amount_recv]

theorem payload_bar0 : (rd P).payload (barCell c) 0 0 = barPayR c := by dsimp only [rd]; rw [use_bar]; rfl
theorem payload_bar1 : (rd P).payload (barCell c) 0 1 = barPayL c := by dsimp only [rd]; rw [use_bar]; rfl
theorem payload_cred (d : ℕ) : (rd P).payload (credCell c) 0 d = credPay c d := by dsimp only [rd]; rw [use_cred]
theorem payload_send (r d : ℕ) : (rd P).payload (sendCell c b) r d = sendPay c b := by dsimp only [rd]; rw [use_send]
theorem payload_recv (r d : ℕ) : (rd P).payload (recvCell c b) r d = recvPay P c b r := by dsimp only [rd]; rw [use_recv]

theorem rest_bar : bigSep ((rd P).duties (barCell c) 0 \ ∅) (fun d => (rd P).payload (barCell c) 0 d)
    = iprop(barPayR c ∗ barPayL c) := by
  rw [Finset.sdiff_empty, duties_bar, bigSep_insert (by decide), bigSep_singleton, payload_bar0, payload_bar1]; rfl
theorem rest_send {r : ℕ} (h : r < 31) :
    bigSep ((rd P).duties (sendCell c b) r \ ∅) (fun d => (rd P).payload (sendCell c b) r d) = sendPay c b := by
  rw [Finset.sdiff_empty, duties_send P c b h, bigSep_singleton, payload_send]
theorem rest_recv {r : ℕ} (h : r < 31) :
    bigSep ((rd P).duties (recvCell c b) r \ ∅) (fun d => (rd P).payload (recvCell c b) r d) = recvPay P c b r := by
  rw [Finset.sdiff_empty, duties_recv P c b h, bigSep_singleton, payload_recv]

end Tables

/-! ## What is owed, and in which order the waits are taken -/

/-- The copies of steps `a` on, into the right neighbour's slots, and the credits of steps `e` on, to the left one. -/
def owed (a e : ℕ) (c : Dev nD) : CellTallies nD τ sig ℕ :=
  (∑ j ∈ Finset.Ico a 62, tallyAt (recvCell (nxt c) (bf j)) j N)
    + ∑ j ∈ Finset.Ico e 60, tallyAt (credCell (prv c)) j 1

/-- The indices of a cell's credit: the numbers of the steps. -/
def L (g : GSem nD τ sig) : Finset ℕ := if g.1.2 = .tc then Finset.range 62 else ∅
/-- The order of the waits: the ends of own copies, the barrier, then step by step what comes in and its credit. -/
def lv (g : GSem nD τ sig) (i : ℕ) : ℕ := match useOf g.2 with
  | .bar => 2
  | .cred => 2 * i + 4
  | .send _ => 1
  | .recv _ => 2 * i + 3
  | .other => 0

theorem L_of_ne (g : GSem nD τ sig) (h : g.1.2 ≠ .tc) : L g = ∅ := if_neg h
theorem L_tc (c : Dev nD) (sm : SemLoc sig) : L ((c : Thread nD τ), sm) = Finset.range 62 := if_pos rfl
theorem lv_bar (c : Dev nD) (i : ℕ) : lv (barCell c) i = 2 := by unfold lv; rw [use_bar]
theorem lv_cred (c : Dev nD) (i : ℕ) : lv (credCell c) i = 2 * i + 4 := by unfold lv; rw [use_cred]
theorem lv_send (c : Dev nD) (b : Fin 2) (i : ℕ) : lv (sendCell c b) i = 1 := by unfold lv; rw [use_send]
theorem lv_recv (c : Dev nD) (b : Fin 2) (i : ℕ) : lv (recvCell c b) i = 2 * i + 3 := by unfold lv; rw [use_recv]

theorem tallyAt_pos {g g' : GSem nD τ sig} {i i' n : ℕ} (h : 0 < (tallyAt g i n : CellTallies nD τ sig ℕ) g' i') :
    g' = g ∧ i' = i := by
  rw [tallyAt_apply] at h
  by_contra hn
  rw [if_neg hn] at h
  exact absurd h (Nat.lt_irrefl 0)

/-- What is owed lies among the cells' indices, above the waits before it. -/
theorem owed_pos {a e : ℕ} {c : Dev nD} {g : GSem nD τ sig} {i : ℕ} (h : 0 < owed a e c g i) :
    i ∈ L g ∧ (2 * a + 3 ≤ lv g i ∨ 2 * e + 4 ≤ lv g i) := by
  unfold owed at h
  rcases Nat.eq_zero_or_pos ((∑ j ∈ Finset.Ico a 62, tallyAt (recvCell (nxt c) (bf j)) j N : CellTallies nD τ sig ℕ) g i) with h0 | h0
  · have h1 : 0 < (∑ j ∈ Finset.Ico e 60, tallyAt (credCell (prv c)) j 1 : CellTallies nD τ sig ℕ) g i := by
      rw [show (_ + _ : CellTallies nD τ sig ℕ) g i = _ + _ from rfl, h0, Nat.zero_add] at h
      exact h
    obtain ⟨j, hj, hp⟩ := Pipeline.sum_pos_exists h1
    obtain ⟨rfl, rfl⟩ := tallyAt_pos hp
    rw [Finset.mem_Ico] at hj
    rw [L_tc, lv_cred, Finset.mem_range]
    omega
  · obtain ⟨j, hj, hp⟩ := Pipeline.sum_pos_exists h0
    obtain ⟨rfl, rfl⟩ := tallyAt_pos hp
    rw [Finset.mem_Ico] at hj
    rw [L_tc, lv_recv, Finset.mem_range]
    omega

/-- A wait below everything owed may be taken. -/
theorem mayWait {a e : ℕ} (c : Dev nD) (sm : SemLoc sig) (i : ℕ) (hi : i < 62)
    (h1 : lv ((c : Thread nD τ), sm) i < 2 * a + 3) (h2 : lv ((c : Thread nD τ), sm) i < 2 * e + 4) :
    (levAts L lv : sProp 𝕄) ⊢ MayWait (c : Thread nD τ) sm i (owed a e c) :=
  MayOwe.of_cut (L := L) (lev := lv) (lv ((c : Thread nD τ), sm) i)
    (fun p hp => by rw [Finset.mem_singleton.mp hp, L_tc]; exact Finset.mem_range.mpr hi)
    (fun g u hg => (owed_pos hg).1)
    (fun p hp => by rw [Finset.mem_singleton.mp hp])
    (fun g u hg => by rcases (owed_pos hg).2 with h | h <;> omega)

theorem owed_send {s e : ℕ} (c : Dev nD) (h : s < 62) :
    owed s e c = owed (s + 1) e c + tallyAt (recvCell (nxt c) (bf s)) s N := by
  unfold owed
  rw [Idealize.ShloMosaic.Ring.sum_Ico_succ h, add_comm (tallyAt _ _ _), add_right_comm]
theorem owed_cred {a s : ℕ} (c : Dev nD) (h : s < 60) :
    owed a s c = owed a (s + 1) c + tallyAt (credCell (prv c)) s 1 := by
  unfold owed
  rw [Idealize.ShloMosaic.Ring.sum_Ico_succ h, add_comm (tallyAt _ _ _), add_assoc]
theorem owed_cred_past {a s : ℕ} (c : Dev nD) (h : 60 ≤ s) : owed a s c = owed a (s + 1) c := by
  unfold owed
  rw [Finset.Ico_eq_empty_of_le h, Finset.Ico_eq_empty_of_le (Nat.le_succ_of_le h)]
theorem owed_end (c : Dev nD) : owed 62 62 c = 0 := by
  unfold owed
  rw [Finset.Ico_self, Finset.Ico_eq_empty_of_le (by decide), Finset.sum_empty, Finset.sum_empty, add_zero]

end Cert.Proof
-- ==== Proof.Ring.lean ====
/- What a device of the ring holds before a step, and the wait for a credit. -/
module

public import proofs.«01_k».proof.Proof.Sched
public import Idealize.SL.BI.BigOpNat

@[expose] public section

set_option maxRecDepth 16384

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## A slot's contents on the way -/

theorem credit_snd (b : Fin 2) : (slotRef sndM b).view.dmaCredit = N := by revert b; decide +kernel
theorem credit_rcv (b : Fin 2) : (slotRef rcvM b).view.dmaCredit = N := by revert b; decide +kernel

theorem rcv_set (b : Fin 2) : (slotRef rcvM b).view.set = (rcvM.access (slotRect b)).set := View.set_reshape _ _
theorem snd_set (b : Fin 2) : (slotRef sndM b).view.set = (sndM.access (slotRect b)).set := View.set_reshape _ _

/-- What is stored into a send slot is what is read from the receive slot it was copied to. -/
theorem slot_trip (b : Fin 2) (fs fd : S2x16x1024.Idx → Elt F .f32) (w : Msg F) :
    (rcvM.access (slotRect b)).read (Elt F)
      ((slotRef rcvM b).view.write (Elt F) fd
        ((slotRef sndM b).view.read (Elt F) ((sndM.access (slotRect b)).write (Elt F) fs w Finset.univ)) Finset.univ) = w := by
  have h1 : (slotRef rcvM b).view.write (Elt F) fd
        ((slotRef sndM b).view.read (Elt F) ((sndM.access (slotRect b)).write (Elt F) fs w Finset.univ)) Finset.univ = _ :=
    View.write_reshape_univ (rcvM.access (slotRect b)) squeezes_S1x16x1024_S16x1024.numel_eq fd _
  rw [h1, View.read_write_univ]
  funext x
  have h2 : ∀ y, (slotRef sndM b).view.read (Elt F) ((sndM.access (slotRect b)).write (Elt F) fs w Finset.univ) y
     = (sndM.access (slotRect b)).read (Elt F) ((sndM.access (slotRect b)).write (Elt F) fs w Finset.univ)
        (Shape.reshapeEquiv squeezes_S1x16x1024_S16x1024.numel_eq y) := fun y => rfl
  rw [h2, View.read_write_univ, Equiv.apply_symm_apply]

/-! ## The shared records -/

/-- One of a family. -/
theorem pick {I : Type} [DecidableEq I] {s : Finset I} {i : I} (hi : i ∈ s) (Φ : I → sProp 𝕄) :
    (bigSep s fun i => Φ i) ⊢ Φ i := bigSep_elim hi
/-- Two families as one. -/
theorem both {I : Type} [DecidableEq I] (s t : Finset I) (Φ : I → sProp 𝕄) :
    iprop((bigSep s fun i => Φ i) ∗ bigSep t fun i => Φ i) ⊢ bigSep (s ∪ t) fun i => Φ i := bigSep_sep_union s t

/-- The semaphores the kernel declares itself: the credit, the two ends of the copies from and to each slot. -/
abbrev osem : Fin 5 → SemLoc sig := fun
  | 0 => .reg credS
  | 1 => .dma (sendS 0)
  | 2 => .dma (sendS 1)
  | 3 => .dma (recvS 0)
  | 4 => .dma (recvS 1)

def barCells : Finset (GSem nD τ sig) := Finset.univ.image barCell
def ownCells : Finset (GSem nD τ sig) :=
  Finset.univ.image fun x : Dev nD × Fin 5 => ((x.1 : Thread nD τ), osem x.2)

theorem bar_mem (c : Dev nD) : barCell c ∈ barCells := Finset.mem_image_of_mem _ (Finset.mem_univ c)
theorem own_mem (c : Dev nD) (i : Fin 5) : ((c : Thread nD τ), osem i) ∈ ownCells :=
  Finset.mem_image_of_mem (fun x : Dev nD × Fin 5 => ((x.1 : Thread nD τ), osem x.2)) (Finset.mem_univ (c, i))
theorem cred_mem (c : Dev nD) : credCell c ∈ ownCells := own_mem c 0
theorem send_mem (c : Dev nD) (b : Fin 2) : sendCell c b ∈ ownCells := by
  match b with
  | 0 => exact own_mem c 1
  | 1 => exact own_mem c 2
theorem recv_mem (c : Dev nD) (b : Fin 2) : recvCell c b ∈ ownCells := by
  match b with
  | 0 => exact own_mem c 3
  | 1 => exact own_mem c 4

variable (P : Dev nD → Out F)

/-- The invariants of all cells and of all receive slots. -/
def invs (K : GSem nD τ sig → ℕ) (κ : SlotKey → ℕ) : sProp 𝕄 :=
  iprop(bigSep barCells (fun g => cellInv ER (rd P) (K g) g)
    ∗ bigSep ownCells (fun g => cellInv ER (rd P) (K g) g)
    ∗ bigSep Finset.univ (fun k : SlotKey => slotInv ES (κ k) k (rSlot k)))

instance invs_persistent (K : GSem nD τ sig → ℕ) (κ : SlotKey → ℕ) : BI.Persistent (invs P K κ) := by
  unfold invs; infer_instance

variable (K : GSem nD τ sig → ℕ) (κ : SlotKey → ℕ)

theorem inv_bar (c : Dev nD) : invs P K κ ⊢ cellInv ER (rd P) (K (barCell c)) (barCell c) := by
  unfold invs
  iintro ⟨H, -, -⟩
  iapply (pick (bar_mem c) fun g => cellInv ER (rd P) (K g) g); iexact H
theorem inv_own {g : GSem nD τ sig} (h : g ∈ ownCells) : invs P K κ ⊢ cellInv ER (rd P) (K g) g := by
  unfold invs
  iintro ⟨-, H, -⟩
  iapply (pick h fun g => cellInv ER (rd P) (K g) g); iexact H
theorem inv_slot (k : SlotKey) : invs P K κ ⊢ slotInv ES (κ k) k (rSlot k) := by
  unfold invs
  iintro ⟨-, -, H⟩
  iapply (pick (Finset.mem_univ k) fun k : SlotKey => slotInv ES (κ k) k (rSlot k)); iexact H

/-! ## What a device holds before a step -/

variable (c : Dev nD)

/-- Its slot for step `j`: the positions of the two cells, the send slot, and, as long as step `j` is still to come,
    the word that the receive slot was released for it; after that the receive slot itself. -/
def slotSt (j : ℕ) : sProp 𝕄 :=
  iprop(atPos ER (sendCell c (bf j)) (j / 2) ∅ 0 ∗ reached ER (sendCell c (bf j)) (j / 2) ∗ (∃ f, sPts c (bf j) f)
    ∗ atPos ER (recvCell c (bf j)) (j / 2) ∅ 0
    ∗ if j < 62 then iprop(readerAt ES ((c, bf j) : SlotKey) (j / 2 + 1) ∗ ready c j) else rSlot (c, bf j))

/-- The credits it has taken before step `s`. -/
def credSt (s : ℕ) : sProp 𝕄 :=
  iprop(∃ T, ⌜T ⊆ Finset.range 60 ∧ s - 2 ≤ T.card⌝ ∗ atPos ER (credCell c) 0 T (s - 2) ∗ bigSep T (fun d => credPay c d))

/-- What step `j` uses up. -/
def stepTok (j : ℕ) : sProp 𝕄 :=
  iprop(dutyTok ER (sendCell c (bf j)) (j / 2) 0 ∗ dutyTok ER (recvCell (nxt c) (bf j)) (j / 2) 0
    ∗ cred (tallyAt (recvCell c (bf j)) j N) ∗ writeTok ES ((nxt c, bf j) : SlotKey) (j / 2 + 1))
def grantTok (j : ℕ) : sProp 𝕄 := dutyTok ER (credCell (prv c)) 0 j
def waitTok (j : ℕ) : sProp 𝕄 := cred (tallyAt (credCell c) j 1)

def toks (s : ℕ) : sProp 𝕄 :=
  iprop(bigSep (Finset.Ico s 62) (stepTok c) ∗ bigSep (Finset.Ico s 60) (grantTok c)
    ∗ bigSep (Finset.Ico (s - 2) 60) (waitTok c))

def owesAny (O : CellTallies nD τ sig ℕ) : sProp 𝕄 := iprop(∃ W, owes (c : Thread nD τ) O W)

/-- What every step may read: the invariants, the order of the waits, and what the barrier brought. -/
def known : sProp 𝕄 :=
  iprop(invs P K κ ∗ levAts L lv ∗ ready (nxt c) 0 ∗ ready (nxt c) 1 ∗ reached ER (credCell (prv c)) 0)

instance known_persistent : BI.Persistent (known P K κ c) := by unfold known; infer_instance

def st (s : ℕ) : sProp 𝕄 :=
  iprop(slotSt c s ∗ slotSt c (s + 1) ∗ outPts c (outAt P s c) ∗ credSt c s ∗ toks c s ∗ owesAny c (owed s s c))

abbrev 𝒱₀ : Variants := Variants.none

variable {defs : Defs nD τ sig (Elt F) Λ₀} {Q : PUnit → sProp (MT nD τ sig ℕ (Elt F) ℕ UU ℕ)}

/-- The rule of a program on device `c`. -/
abbrev WPd (defs : Defs nD τ sig (Elt F) Λ₀) (c : Dev nD) (k : Pg F) (Q : PUnit → sProp 𝕄) : sProp 𝕄 :=
  wp frame (wpE defs 𝒱₀ (c : Thread nD τ) none) Set.univ k Q

/-! ## The credit -/

theorem ready_mono (d : Dev nD) {i j : ℕ} (h : i ≤ j) (hm : i % 2 = j % 2) : ready (F := F) d j ⊢ ready d i := by
  have hb : bf j = bf i := Fin.ext hm.symm
  unfold ready
  rw [hb]
  exact BIClass.sep_mono (released_mono ES (by omega)) (reached_mono ER (by omega))

/-- Among more than `m` of the credits one is the `m`th or a later one. -/
theorem late_credit {S : Finset ℕ} {m : ℕ} (h : m + 1 ≤ S.card) : ∃ d ∈ S, m ≤ d := by
  by_contra hn
  push Not at hn
  have h1 : S ⊆ Finset.range m := fun d hd => Finset.mem_range.mpr (hn d hd)
  have h2 := Finset.card_le_card h1
  rw [Finset.card_range] at h2
  omega

theorem credPay_ready {s d : ℕ} (h2 : 2 ≤ s) (h : s - 2 ≤ d) : credPay (F := F) c d ⊢ ready (nxt c) s := by
  unfold credPay
  by_cases hm : s % 2 = (d + 2) % 2
  · iintro ⟨H, -⟩
    iapply (ready_mono (nxt c) (show s ≤ d + 2 by omega) hm); iexact H
  · iintro ⟨-, H⟩
    iapply (ready_mono (nxt c) (show s ≤ d + 1 by omega) (by omega)); iexact H

/-- The wait for a credit, where the step has one: after it the right neighbour is ready for the step. -/
theorem credit_wp_pos {s : ℕ} (hs : s < 62) (h2 : 2 ≤ s) (k : Pg F) :
    iprop(known P K κ c ∗ credSt c s ∗ bigSep (Finset.Ico (s - 2) 60) (waitTok c) ∗ owesAny c (owed s s c)
      ∗ (ready (nxt c) s ∗ credSt c (s + 1) ∗ bigSep (Finset.Ico (s + 1 - 2) 60) (waitTok c)
          ∗ owesAny c (owed s s c) -∗ WPd defs c k Q))
    ⊢ WPd defs c (creditK cc0_scratch5 (decide (2 ≤ s)) k) Q := by
  unfold known
  have hd : decide (2 ≤ s) = true := decide_eq_true h2
  have e1 : s - 2 + 1 = s + 1 - 2 := by omega
  rw [hd, Idealize.SL.BI.bigSep_Ico_succ_bot (show s - 2 < 60 by omega), e1]
  have hmay : (levAts L lv : sProp (MT nD τ sig ℕ (Elt F) ℕ UU ℕ)) ⊢ MayWait (c : Thread nD τ) (.reg credS) (s - 2) (owed s s c) :=
    mayWait c (.reg credS) (s - 2) (by omega) (by rw [lv_cred]; omega) (by rw [lv_cred]; omega)
  have hpl : ∀ S T : Finset ℕ, (bigSep (S \ T) fun d => (rd P).payload (credCell c) 0 d) = bigSep (S \ T) fun d => credPay (F := F) c d :=
    fun S T => bigSep_congr fun d _ => payload_cred P c d
  have htot : Util.total (Finsupp.single (s - 2) 1) = 1 := by rw [Util.total_single]
  have hsub : (Finsupp.single (s - 2) 1 : ℕ →₀ ℕ).support.image ((SemLoc.reg credS : SemLoc sig), ·) ⊆ {((SemLoc.reg credS : SemLoc sig), s - 2)} :=
    image_single_subset _ _ _
  unfold creditK credSt owesAny waitTok
  iintro ⟨⟨#Hi, #Hlev, -, -, -⟩, ⟨%T, %hT, Hat, #Hpay⟩, ⟨Hc, Hw⟩, ⟨%W, HO⟩, Hk⟩
  iapply (Rounds.wp_wait 𝒱₀ ER (rd P) (c : Thread nD τ) none (κ := K (credCell c))
      (wpE_semWait_eq 𝒱₀ (c : Thread nD τ) none Set.univ) (Set.mem_univ _) (cr := Finsupp.single (s - 2) 1)
      {(SemLoc.reg credS, s - 2)} (O := owed s s c) (W := W) (R := 0) (m := s - 2) (T := T)
      htot hsub) $$ [Hc HO Hat]
  · isplitr; · iapply (inv_own P K κ (cred_mem c)); iexact Hi
    isplitl [Hc]; · iexact Hc
    isplitl [HO]; · iexact HO
    isplitr
    · iapply hmay; iexact Hlev
    iexact Hat
  iintro %S ⟨%hS, HO, Hat, Hnew⟩
  obtain ⟨hTS, hSD, hcard⟩ := hS
  rw [duties_cred] at hSD hcard
  rw [expect_cred, Finset.card_sdiff_of_subset hSD, Finset.card_range] at hcard
  have hle := Finset.card_le_card hSD
  rw [Finset.card_range] at hle
  ihave Hnew' := (Entails.of_eq (hpl S T)) $$ Hnew
  icases Hnew' with #Hnew'
  ihave Hall := (both T (S \ T) fun d => credPay (F := F) c d) $$ [Hpay Hnew']
  · isplitr <;> iassumption
  rw [Finset.union_sdiff_of_subset hTS]
  icases Hall with #Hall
  obtain ⟨d, hdS, hd2⟩ := late_credit (S := S) (m := s - 2) (by omega)
  iapply Hk
  isplitr
  · iapply (credPay_ready c h2 hd2); iapply (pick hdS fun d => credPay (F := F) c d); iexact Hall
  isplitl [Hat]
  · iexists S
    isplitr; · ipureintro; exact ⟨hSD, by omega⟩
    rw [e1]
    isplitl [Hat]; · iexact Hat
    iexact Hall
  isplitl [Hw]; · iexact Hw
  iexists _; iexact HO

/-- The first two steps need no credit: the barrier has told that the right neighbour is ready for them. -/
theorem credit_wp_neg {s : ℕ} (h2 : ¬ 2 ≤ s) (k : Pg F) :
    iprop(known P K κ c ∗ credSt c s ∗ bigSep (Finset.Ico (s - 2) 60) (waitTok c) ∗ owesAny c (owed s s c)
      ∗ (ready (nxt c) s ∗ credSt c (s + 1) ∗ bigSep (Finset.Ico (s + 1 - 2) 60) (waitTok c)
          ∗ owesAny c (owed s s c) -∗ WPd defs c k Q))
    ⊢ WPd defs c (creditK cc0_scratch5 (decide (2 ≤ s)) k) Q := by
  unfold known
  have hd : decide (2 ≤ s) = false := decide_eq_false h2
  have e1 : s + 1 - 2 = s - 2 := by omega
  rw [hd, e1]
  unfold creditK credSt
  iintro ⟨⟨#Hi, #Hlev, #H0, #H1, -⟩, Hcs, Hw, HO, Hk⟩
  iapply Hk
  isplitr
  · rcases (show s = 0 ∨ s = 1 by omega) with rfl | rfl
    · iexact H0
    · iexact H1
  isplitl [Hcs]; · rw [e1]; iexact Hcs
  isplitl [Hw] <;> iassumption

/-- Past the credit of a step the right neighbour is ready for the step. -/
theorem credit_wp {s : ℕ} (hs : s < 62) (k : Pg F) :
    iprop(known P K κ c ∗ credSt c s ∗ bigSep (Finset.Ico (s - 2) 60) (waitTok c) ∗ owesAny c (owed s s c)
      ∗ (ready (nxt c) s ∗ credSt c (s + 1) ∗ bigSep (Finset.Ico (s + 1 - 2) 60) (waitTok c)
          ∗ owesAny c (owed s s c) -∗ WPd defs c k Q))
    ⊢ WPd defs c (creditK cc0_scratch5 (decide (2 ≤ s)) k) Q :=
  if h2 : 2 ≤ s then credit_wp_pos P K κ c hs h2 k else credit_wp_neg P K κ c h2 k

end Cert.Proof
-- ==== Proof.Step.lean ====
/- The sending and the receiving half of a step of the ring, at a symbolic step number and device. -/
module

public import proofs.«01_k».proof.Proof.Ring

@[expose] public section

set_option maxRecDepth 16384

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (P : Dev nD → Out F) (K : GSem nD τ sig → ℕ) (κ : SlotKey → ℕ) (c : Dev nD)
variable {defs : Defs nD τ sig (Elt F) Λ₀} {Q : PUnit → sProp (MT nD τ sig ℕ (Elt F) ℕ UU ℕ)}

/-! ## The step's local part -/

section Local
variable (o : Fin 3 → Nat) (ho : ∀ a, o a + S1x16x1024.size a ≤ S1x512x1024.size a)

theorem out_load (f : Out F) (k : Msg F → Pg F) (hl : outM.view.LoadsAt (rowRect o ho).toLoadRect) :
    (outPts c f : sProp 𝕄) ⊢ iprop((outPts c f -∗ WPd defs c (k (rows o ho f)) Q)
      -∗ WPd defs c (Prog.op (TpuEff.load (e := .f32) outM (rowRect o ho).toLoadRect hl) fun v => k v) Q) :=
  wp_load_rect (m := outM) (r := rowRect o ho) (hl := hl) (k := fun v => k v) (S := Finset.univ) (q := fullShare) (f := f)
    𝒱₀ (c : Thread nD τ) none Set.univ (Finset.subset_univ _)

theorem out_store (f : Out F) (w : Msg F) (k : PUnit → Pg F)
    (hx : (outM.access (rowRect o ho)).Stores Finset.univ) (hm : (Finset.univ : Finset (rowRect o ho).shape.Idx) = Finset.univ ∨ ∀ a, (rowRect o ho).stride a = 1) :
    (outPts c f : sProp 𝕄) ⊢ iprop((outPts c (putRows o ho f w) -∗ WPd defs c (k ⟨⟩) Q)
      -∗ WPd defs c (Prog.op (TpuEff.store (e := .f32) outM (rowRect o ho) w Finset.univ hx hm) k) Q) := by
  have hS : (outM.access (rowRect o ho)).setOn Finset.univ ⊆ Finset.univ := Finset.subset_univ _
  have h := wp_store (m := outM) (r := rowRect o ho) (w := w) (Mk := Finset.univ) (hx := hx) (hm := hm) (k := k) (S := Finset.univ) (f := f)
    (defs := defs) (Q := Q) (Γ := .empty) 𝒱₀ (c : Thread nD τ) none Set.univ hS
  exact h

theorem rcv_load (b : Fin 2) (g : S2x16x1024.Idx → Elt F .f32) (k : Msg F → Pg F) (hl : rcvM.view.LoadsAt (slotRect b).toLoadRect) :
    (rPts c b g : sProp 𝕄) ⊢ iprop((rPts c b g -∗ WPd defs c (k ((rcvM.access (slotRect b)).read (Elt F) g)) Q)
      -∗ WPd defs c (Prog.op (TpuEff.load (e := .f32) rcvM (slotRect b).toLoadRect hl) fun v => k v) Q) :=
  wp_load_rect (m := rcvM) (r := slotRect b) (hl := hl) (k := fun v => k v) (S := (slotRef rcvM b).view.set) (q := fullShare) (f := g)
    𝒱₀ (c : Thread nD τ) none Set.univ (rcv_set b).ge

theorem snd_load (b : Fin 2) (g : S2x16x1024.Idx → Elt F .f32) (k : Msg F → Pg F) (hl : sndM.view.LoadsAt (slotRect b).toLoadRect) :
    (sPts c b g : sProp 𝕄) ⊢ iprop((sPts c b g -∗ WPd defs c (k ((sndM.access (slotRect b)).read (Elt F) g)) Q)
      -∗ WPd defs c (Prog.op (TpuEff.load (e := .f32) sndM (slotRect b).toLoadRect hl) fun v => k v) Q) :=
  wp_load_rect (m := sndM) (r := slotRect b) (hl := hl) (k := fun v => k v) (S := (slotRef sndM b).view.set) (q := fullShare) (f := g)
    𝒱₀ (c : Thread nD τ) none Set.univ (snd_set b).ge

theorem snd_store (b : Fin 2) (g : S2x16x1024.Idx → Elt F .f32) (w : Msg F) (k : PUnit → Pg F)
    (hx : (sndM.access (slotRect b)).Stores Finset.univ) (hm : (Finset.univ : Finset (slotRect b).shape.Idx) = Finset.univ ∨ ∀ a, (slotRect b).stride a = 1) :
    (sPts c b g : sProp 𝕄) ⊢ iprop((sPts c b ((sndM.access (slotRect b)).write (Elt F) g w Finset.univ) -∗ WPd defs c (k ⟨⟩) Q)
      -∗ WPd defs c (Prog.op (TpuEff.store (e := .f32) sndM (slotRect b) w Finset.univ hx hm) k) Q) := by
  have hS : (sndM.access (slotRect b)).setOn Finset.univ ⊆ (slotRef sndM b).view.set := by rw [View.setOn_univ]; exact (snd_set b).ge
  have h := wp_store (m := sndM) (r := slotRect b) (w := w) (Mk := Finset.univ) (hx := hx) (hm := hm) (k := k) (S := (slotRef sndM b).view.set) (f := g)
    (defs := defs) (Q := Q) (Γ := .empty) 𝒱₀ (c : Thread nD τ) none Set.univ hS
  exact h

end Local

/-- The receiving half of step `s`. -/
def recvK (s : ℕ) (hs : s < 62) (k : Pg F) : Pg F :=
  if s < 31 then addK outM rcvM (recvOff c s) (recvOff_inb c s hs) (bf s) k
  else copyK outM rcvM (recvOff c s) (recvOff_inb c s hs) (bf s) k

theorem recv_wp {s : ℕ} (hs : s < 62) (k : Pg F) (f : Out F) (g : S2x16x1024.Idx → Elt F .f32) :
    iprop(outPts c f ∗ rPts c (bf s) g
      ∗ (outPts c (stepOut c s f ((rcvM.access (slotRect (bf s))).read (Elt F) g)) ∗ rPts c (bf s) g -∗ WPd defs c k Q))
    ⊢ WPd defs c (recvK c s hs k) Q := by
  unfold recvK stepOut inPay
  rw [dif_pos hs]
  by_cases h31 : s < 31
  · rw [if_pos h31]
    simp only [if_pos h31]
    unfold addK
    iintro ⟨Ho, Hr, Hk⟩
    iapply (out_load c) $$ Ho
    iintro Ho
    iapply (rcv_load c) $$ Hr
    iintro Hr
    iapply (out_load c) $$ Ho
    iintro Ho
    iapply (out_store c) $$ Ho
    iintro Ho
    iapply Hk
    isplitl [Ho]; · iexact Ho
    iexact Hr
  · rw [if_neg h31]
    simp only [if_neg h31]
    unfold copyK
    iintro ⟨Ho, Hr, Hk⟩
    iapply (rcv_load c) $$ Hr
    iintro Hr
    iapply (out_load c) $$ Ho
    iintro Ho
    iapply (out_store c) $$ Ho
    iintro Ho
    iapply Hk
    isplitl [Ho]; · iexact Ho
    iexact Hr

/-! ## The copy -/

theorem two_half (s : ℕ) : 2 * (s / 2) + (bf s).val = s := Nat.div_add_mod s 2

theorem rSlot_open (d : Dev nD) (b : Fin 2) : (rSlot (d, b) : sProp 𝕄) ⊢ iprop(∃ f, rPts d b f) := .rfl

/-- The copy of step `s` to the right neighbour, from a send slot that holds the step's rows. -/
theorem enq_wp {s : ℕ} (hs : s < 62) (fs : S2x16x1024.Idx → Elt F .f32) (w : Msg F) (hw : w = msgOf c s (outAt P s c))
    (fd : S2x16x1024.Idx → Elt F .f32) (W : Waits sig ℕ) (k : PUnit → Pg F)
    (h1 : (slotRef sndM (bf s)).view.WordExact) (h2 : (slotRef rcvM (bf s)).view.WordExact)
    (h3 : DmaTarget.Typed (p := .tc) .vmem (.dma (recvS (bf s)))
      (DmaTarget.remote (Dev.tc (rightOf c)) (slotRef rcvM (bf s)) (.dma (sendS (bf s))))) :
    iprop(invs P K κ ∗ sPts c (bf s) ((sndM.access (slotRect (bf s))).write (Elt F) fs w Finset.univ) ∗ rPts (nxt c) (bf s) fd
      ∗ owes (c : Thread nD τ) (owed s s c) W
      ∗ dutyTok ER (sendCell c (bf s)) (s / 2) 0 ∗ reached ER (sendCell c (bf s)) (s / 2)
      ∗ dutyTok ER (recvCell (nxt c) (bf s)) (s / 2) 0 ∗ reached ER (recvCell (nxt c) (bf s)) (s / 2))
    ⊢ iprop((cred (tallyAt (sendCell c (bf s)) s N) ∗ owes (c : Thread nD τ) (owed (s + 1) s c) W -∗ WPd defs c (k ⟨⟩) Q)
      -∗ WPd defs c (.op (.enqueueDma (slotRef sndM (bf s)) (.remote (Dev.tc (rightOf c)) (slotRef rcvM (bf s)) (.dma (sendS (bf s))))
          (.dma (recvS (bf s))) h1 h2 h3) k) Q) := by
  have hr : s / 2 < 31 := by omega
  have hd1 : (0 : ℕ) ∈ (rd P).duties (sendCell c (bf s)) (s / 2) := by rw [duties_send P c (bf s) hr]; exact Finset.mem_singleton_self _
  have hd2 : (0 : ℕ) ∈ (rd P).duties (recvCell (nxt c) (bf s)) (s / 2) := by rw [duties_recv P (nxt c) (bf s) hr]; exact Finset.mem_singleton_self _
  have hp1 : (sPts c (bf s) ((sndM.access (slotRect (bf s))).write (Elt F) fs w Finset.univ) : sProp 𝕄)
      ⊢ (rd P).payload (sendCell c (bf s)) (s / 2) 0 := by
    rw [payload_send]; unfold sendPay; iintro H; iexists _; iexact H
  have hp2 : (rPts (nxt c) (bf s) ((slotRef rcvM (bf s)).view.write (Elt F) fd
        ((slotRef sndM (bf s)).view.read (Elt F) ((sndM.access (slotRect (bf s))).write (Elt F) fs w Finset.univ)) Finset.univ) : sProp 𝕄)
      ⊢ (rd P).payload (recvCell (nxt c) (bf s)) (s / 2) 0 := by
    rw [payload_recv]; unfold recvPay; rw [two_half, prv_nxt, ← hw]
    iintro H; iexists _
    isplitr
    · ipureintro; exact slot_trip (bf s) fs fd w
    iexact H
  iintro ⟨#Hi, Hs, Hd, HO, HtS, HrS, HtR, HrR⟩
  iapply (Rounds.wp_send_pointsTo 𝒱₀ ER (rd P) (c : Thread nD τ) none (c' := (nxt c : Thread nD τ)) (src := slotRef sndM (bf s))
      (dst := slotRef rcvM (bf s)) (sS := .dma (sendS (bf s))) (sem := .dma (recvS (bf s))) (q := fullShare)
      (fs := (sndM.access (slotRect (bf s))).write (Elt F) fs w Finset.univ)
      (κ₁ := K (sendCell c (bf s))) (κ₂ := K (recvCell (nxt c) (bf s)))
      (r₁ := s / 2) (r₂ := s / 2) (d₁ := 0) (d₂ := 0) (fd := fd)
      hd1 hd2 s s N (credit_rcv (bf s)) (amount_send P c (bf s) _ _) (amount_recv P (nxt c) (bf s) _ _) (owed (s + 1) s c)
      (owed_send c hs) (W := W) hp1 hp2)
  isplitr; · iapply (inv_own P K κ (send_mem c (bf s))); iexact Hi
  isplitr; · iapply (inv_own P K κ (recv_mem (nxt c) (bf s))); iexact Hi
  isplitl [Hs]; · iexact Hs
  isplitl [Hd]; · iexact Hd
  isplitl [HO]; · iexact HO
  isplitl [HtS]; · iexact HtS
  isplitl [HrS]; · iexact HrS
  isplitl [HtR]; · iexact HtR
  iexact HrR

/-- The wait for the send slot to be free again. -/
theorem sent_wp {s : ℕ} (hs : s < 62) (W : Waits sig ℕ) (k : PUnit → Pg F)
    (h1 : (slotRef rcvM (bf s)).view.WordExact) (h2 : (slotRef sndM (bf s)).view.WordExact) :
    iprop(invs P K κ ∗ levAts L lv ∗ cred (tallyAt (sendCell c (bf s)) s N) ∗ owes (c : Thread nD τ) (owed (s + 1) s c) W
      ∗ atPos ER (sendCell c (bf s)) (s / 2) ∅ 0)
    ⊢ iprop((owesAny c (owed (s + 1) s c) ∗ atPos ER (sendCell c (bf s)) (s / 2 + 1) ∅ 0 ∗ reached ER (sendCell c (bf s)) (s / 2 + 1)
        ∗ (∃ f, sPts c (bf s) f) -∗ WPd defs c (k ⟨⟩) Q)
      -∗ WPd defs c (.op (.waitDma2 (sendS (bf s)) (slotRef rcvM (bf s)) (slotRef sndM (bf s)) h1 h2) k) Q) := by
  have hr : s / 2 < 31 := by omega
  have hx : 0 + (slotRef sndM (bf s)).view.dmaCredit = (rd P).expect (sendCell c (bf s)) (s / 2) := by
    rw [expect_send P c (bf s) hr, credit_snd, Nat.zero_add]
  have hm : (levAts L lv : sProp 𝕄) ⊢ MayWait (c : Thread nD τ) (.dma (sendS (bf s))) s (owed (s + 1) s c) :=
    mayWait c (.dma (sendS (bf s))) s hs (by rw [lv_send]; omega) (by rw [lv_send]; omega)
  iintro ⟨#Hi, #Hlev, Hc, HO, Ha⟩ Hk
  iapply (Rounds.wp_wait_rest_token 𝒱₀ ER (rd P) (c : Thread nD τ) none (κ := K (sendCell c (bf s)))
      (wpE_waitDma2_eq 𝒱₀ (c : Thread nD τ) none Set.univ) (Set.mem_univ _) s (O := owed (s + 1) s c)
      (W := W) (R := s / 2) (m := 0) (T := ∅) hx) $$ [Hc HO Ha]
  · isplitr; · iapply (inv_own P K κ (send_mem c (bf s))); iexact Hi
    isplitl [Hc]; · rw [credit_snd]; iexact Hc
    isplitl [HO]; · iexact HO
    isplitr; · iapply hm; iexact Hlev
    iexact Ha
  iintro ⟨HO, Ha, Hr, Hpay⟩
  ihave Hs := (Entails.of_eq (rest_send P c (bf s) hr)) $$ Hpay
  iapply Hk
  isplitl [HO]; · unfold owesAny; iexists _; iexact HO
  isplitl [Ha]; · iexact Ha
  isplitl [Hr]; · iexact Hr
  unfold sendPay; iexact Hs

/-- The wait for what the left neighbour sends. -/
theorem came_wp {s : ℕ} (hs : s < 62) (W : Waits sig ℕ) (k : PUnit → Pg F)
    (h1 : (slotRef sndM (bf s)).view.WordExact) (h2 : (slotRef rcvM (bf s)).view.WordExact) :
    iprop(invs P K κ ∗ levAts L lv ∗ cred (tallyAt (recvCell c (bf s)) s N) ∗ owes (c : Thread nD τ) (owed (s + 1) s c) W
      ∗ atPos ER (recvCell c (bf s)) (s / 2) ∅ 0)
    ⊢ iprop((owesAny c (owed (s + 1) s c) ∗ atPos ER (recvCell c (bf s)) (s / 2 + 1) ∅ 0 ∗ reached ER (recvCell c (bf s)) (s / 2 + 1)
        ∗ (∃ g, ⌜(rcvM.access (slotRect (bf s))).read (Elt F) g = msgOf (prv c) s (outAt P s (prv c))⌝ ∗ rPts c (bf s) g)
          -∗ WPd defs c (k ⟨⟩) Q)
      -∗ WPd defs c (.op (.waitDma2 (recvS (bf s)) (slotRef sndM (bf s)) (slotRef rcvM (bf s)) h1 h2) k) Q) := by
  have hr : s / 2 < 31 := by omega
  have hx : 0 + (slotRef rcvM (bf s)).view.dmaCredit = (rd P).expect (recvCell c (bf s)) (s / 2) := by
    rw [expect_recv P c (bf s) hr, credit_rcv, Nat.zero_add]
  have hm : (levAts L lv : sProp 𝕄) ⊢ MayWait (c : Thread nD τ) (.dma (recvS (bf s))) s (owed (s + 1) s c) :=
    mayWait c (.dma (recvS (bf s))) s hs (by rw [lv_recv]; omega) (by rw [lv_recv]; omega)
  iintro ⟨#Hi, #Hlev, Hc, HO, Ha⟩ Hk
  iapply (Rounds.wp_wait_rest_token 𝒱₀ ER (rd P) (c : Thread nD τ) none (κ := K (recvCell c (bf s)))
      (wpE_waitDma2_eq 𝒱₀ (c : Thread nD τ) none Set.univ) (Set.mem_univ _) s (O := owed (s + 1) s c)
      (W := W) (R := s / 2) (m := 0) (T := ∅) hx) $$ [Hc HO Ha]
  · isplitr; · iapply (inv_own P K κ (recv_mem c (bf s))); iexact Hi
    isplitl [Hc]; · rw [credit_rcv]; iexact Hc
    isplitl [HO]; · iexact HO
    isplitr; · iapply hm; iexact Hlev
    iexact Ha
  iintro ⟨HO, Ha, Hr, Hpay⟩
  ihave Hs := (Entails.of_eq (rest_recv P c (bf s) hr)) $$ Hpay
  iapply Hk
  isplitl [HO]; · unfold owesAny; iexists _; iexact HO
  isplitl [Ha]; · iexact Ha
  isplitl [Hr]; · iexact Hr
  unfold recvPay
  rw [two_half]
  iexact Hs

/-- From the loads of the rows to the end of the two waits: what came in from the left neighbour is in the slot. -/
theorem send_wp {s : ℕ} (hs : s < 62) (k : Pg F) :
    iprop(known P K κ c ∗ outPts c (outAt P s c) ∗ credSt c s ∗ bigSep (Finset.Ico (s - 2) 60) (waitTok c) ∗ owesAny c (owed s s c)
      ∗ stepTok c s
      ∗ atPos ER (sendCell c (bf s)) (s / 2) ∅ 0 ∗ reached ER (sendCell c (bf s)) (s / 2) ∗ (∃ f, sPts c (bf s) f)
      ∗ atPos ER (recvCell c (bf s)) (s / 2) ∅ 0
      ∗ (outPts c (outAt P s c) ∗ credSt c (s + 1) ∗ bigSep (Finset.Ico (s + 1 - 2) 60) (waitTok c) ∗ owesAny c (owed (s + 1) s c)
          ∗ atPos ER (sendCell c (bf s)) (s / 2 + 1) ∅ 0 ∗ reached ER (sendCell c (bf s)) (s / 2 + 1) ∗ (∃ f, sPts c (bf s) f)
          ∗ atPos ER (recvCell c (bf s)) (s / 2 + 1) ∅ 0 ∗ reached ER (recvCell c (bf s)) (s / 2 + 1)
          ∗ (∃ g, ⌜(rcvM.access (slotRect (bf s))).read (Elt F) g = msgOf (prv c) s (outAt P s (prv c))⌝ ∗ rPts c (bf s) g)
          -∗ WPd defs c k Q))
    ⊢ WPd defs c (sendK outM sndM rcvM cc0_scratch3 cc0_scratch4 cc0_scratch5 (rightOf c) (sendOff c s) (sendOff_inb c s hs)
        (bf s) (decide (2 ≤ s)) k) Q := by
  have hr : s / 2 < 31 := by omega
  unfold sendK stepTok
  iintro ⟨#Hkn, Ho, Hcs, Hw, HO, ⟨HtS, HtR, HcR, Hwt⟩, HaS, #HrS, ⟨%fs, Hs⟩, HaR, Hk⟩
  iapply (out_load c) $$ Ho
  iintro Ho
  iapply (snd_load c) $$ Hs
  iintro Hs
  iapply (snd_store c) $$ Hs
  iintro Hs
  iapply (credit_wp P K κ c hs)
  isplitr; · iexact Hkn
  isplitl [Hcs]; · iexact Hcs
  isplitl [Hw]; · iexact Hw
  isplitl [HO]; · iexact HO
  unfold known owesAny ready
  iintro ⟨⟨#Hrel, #HrN⟩, Hcs, Hw, ⟨%W, HO⟩⟩
  icases Hkn with ⟨#Hi, #Hlev, -⟩
  -- the right neighbour's slot, which it released for this step
  ihave #Hsl := (inv_slot P K κ (nxt c, bf s)) $$ Hi
  imod (slot_take ES (Set.mem_univ (κ (nxt c, bf s))) (s / 2 + 1)) $$ [Hwt] with Hd
  · isplitr; · iexact Hsl
    isplitr; · iexact Hrel
    iexact Hwt
  ihave Hd' := (rSlot_open (nxt c) (bf s)) $$ Hd
  icases Hd' with ⟨%fd, Hd⟩
  iapply (enq_wp P K κ c hs fs _ (show _ = msgOf c s (outAt P s c) from (dif_pos hs).symm) fd W) $$ [Hs Hd HO HtS HtR]
  · isplitr; · iexact Hi
    isplitl [Hs]; · iexact Hs
    isplitl [Hd]; · iexact Hd
    isplitl [HO]; · iexact HO
    isplitl [HtS]; · iexact HtS
    isplitr; · iexact HrS
    isplitl [HtR]; · iexact HtR
    iexact HrN
  iintro ⟨HcS, HO⟩
  iapply (sent_wp P K κ c hs W) $$ [HcS HO HaS]
  · isplitr; · iexact Hi
    isplitr; · iexact Hlev
    isplitl [HcS]; · iexact HcS
    isplitl [HO] <;> iassumption
  unfold owesAny
  iintro ⟨⟨%W', HO⟩, HaS, #HrS', Hs⟩
  iapply (came_wp P K κ c hs W') $$ [HcR HO HaR]
  · isplitr; · iexact Hi
    isplitr; · iexact Hlev
    isplitl [HcR]; · iexact HcR
    isplitl [HO] <;> iassumption
  unfold owesAny
  iintro ⟨HO, HaR, #HrR, Hr⟩
  iapply Hk
  isplitl [Ho]; · iexact Ho
  isplitl [Hcs]; · iexact Hcs
  isplitl [Hw]; · iexact Hw
  isplitl [HO]; · iexact HO
  isplitl [HaS]; · iexact HaS
  isplitr; · iexact HrS'
  isplitl [Hs]; · iexact Hs
  isplitl [HaR]; · iexact HaR
  isplitr; · iexact HrR
  iexact Hr

end Cert.Proof
-- ==== Proof.Chain.lean ====
/- The chain of all sixty-two steps of the ring, by one lemma for a step at a symbolic number and device. -/
module

public import proofs.«01_k».proof.Proof.Step

@[expose] public section

set_option maxRecDepth 16384

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (P : Dev nD → Out F) (K : GSem nD τ sig → ℕ) (κ : SlotKey → ℕ) (c : Dev nD)
variable {defs : Defs nD τ sig (Elt F) Λ₀} {Q : PUnit → sProp (MT nD τ sig ℕ (Elt F) ℕ UU ℕ)}

/-! ## The end of a step -/

theorem rSlot_close (d : Dev nD) (b : Fin 2) (g : S2x16x1024.Idx → Elt F .f32) : (rPts d b g : sProp 𝕄) ⊢ rSlot (d, b) := by
  show _ ⊢ iprop(∃ f, rPts d b f)
  iintro H; iexists g; iexact H

theorem slot_ready {j : ℕ} (h : j < 62) : slotSt (F := F) c j ⊢ iprop(ready c j ∗ slotSt c j) := by
  unfold slotSt
  rw [if_pos h]
  iintro ⟨H1, H2, H3, H4, H5, #H6⟩
  isplitr; · iexact H6
  isplitl [H1]; · iexact H1
  isplitl [H2]; · iexact H2
  isplitl [H3]; · iexact H3
  isplitl [H4]; · iexact H4
  isplitl [H5]; · iexact H5
  iexact H6

/-- What a device still holds of its slot once it has read it. -/
def slotUsed (s : ℕ) : sProp 𝕄 :=
  iprop(atPos ER (sendCell c (bf s)) (s / 2 + 1) ∅ 0 ∗ reached ER (sendCell c (bf s)) (s / 2 + 1) ∗ (∃ f, sPts c (bf s) f)
    ∗ atPos ER (recvCell c (bf s)) (s / 2 + 1) ∅ 0)

theorem slot_next {s : ℕ} (h : s < 60) :
    iprop(slotUsed (F := F) c s ∗ readerAt ES ((c, bf s) : SlotKey) (s / 2 + 1 + 1) ∗ ready c (s + 2)) ⊢ slotSt c (s + 2) := by
  unfold slotSt slotUsed
  rw [if_pos (show s + 2 < 62 by omega), bf_add_two, half_add_two]
  iintro ⟨⟨H1, H2, H3, H4⟩, H5, H6⟩
  isplitl [H1]; · iexact H1
  isplitl [H2]; · iexact H2
  isplitl [H3]; · iexact H3
  isplitl [H4]; · iexact H4
  isplitl [H5] <;> iassumption

theorem slot_last {s : ℕ} (h : ¬ s < 60) : iprop(slotUsed (F := F) c s ∗ rSlot (c, bf s)) ⊢ slotSt c (s + 2) := by
  unfold slotSt slotUsed
  rw [if_neg (show ¬ s + 2 < 62 by omega), bf_add_two, half_add_two]
  iintro ⟨⟨H1, H2, H3, H4⟩, H5⟩
  isplitl [H1]; · iexact H1
  isplitl [H2]; · iexact H2
  isplitl [H3]; · iexact H3
  isplitl [H4]; · iexact H4
  iexact H5

/-- The slot is released for the step after the next, and the left neighbour told so. -/
theorem grant_wp {s : ℕ} (hs : s < 62) (k : Pg F) :
    iprop(known P K κ c ∗ slotUsed c s ∗ reached ER (recvCell c (bf s)) (s / 2 + 1) ∗ readerAt ES ((c, bf s) : SlotKey) (s / 2 + 1)
      ∗ rSlot (c, bf s) ∗ slotSt c (s + 1) ∗ bigSep (Finset.Ico s 60) (grantTok c) ∗ owesAny c (owed (s + 1) s c)
      ∗ (slotSt c (s + 1) ∗ slotSt c (s + 2) ∗ bigSep (Finset.Ico (s + 1) 60) (grantTok c) ∗ owesAny c (owed (s + 1) (s + 1) c)
          -∗ WPd defs c k Q))
    ⊢ WPd defs c (grantK cc0_scratch5 (leftOf c) (decide (s < 60)) k) Q := by
  by_cases h : s < 60
  · have hd : decide (s < 60) = true := decide_eq_true h
    have hmem : s ∈ (rd P).duties (credCell (prv c)) 0 := by rw [duties_cred]; exact Finset.mem_range.mpr h
    have hpay : (rd P).payload (credCell (prv c)) 0 s = iprop(ready c (s + 2) ∗ ready c (s + 1)) := by
      rw [payload_cred]; unfold credPay; rw [nxt_prv]
    have hrdy : (ready c (s + 2) : sProp 𝕄) = iprop(released ES ((c, bf s) : SlotKey) (s / 2 + 1 + 1) ∗ reached ER (recvCell c (bf s)) (s / 2 + 1)) := by
      unfold ready; rw [bf_add_two, half_add_two]
    have hff : iprop(rSlot (c, bf s) ∗ rSlot (c, bf s)) ⊢ (False : sProp 𝕄) := slot_slot_false (rcv_nonempty (bf s))
    rw [hd, Idealize.SL.BI.bigSep_Ico_succ_bot h]
    unfold grantK known owesAny grantTok
    iintro ⟨⟨#Hi, -, -, -, #Hcr⟩, Hu, #Hr, Hrd, Hsl, Hst, ⟨Ht, Hts⟩, ⟨%W, HO⟩, Hk⟩
    ihave #Hinv := (inv_slot P K κ (c, bf s)) $$ Hi
    imod (slot_release ES (Set.mem_univ (κ (c, bf s))) hff (s / 2 + 1)) $$ [Hrd Hsl] with ⟨Hrd, #Hrel⟩
    · isplitr; · iexact Hinv
      isplitl [Hrd] <;> iassumption
    ihave Hst' := (slot_ready c (show s + 1 < 62 by omega)) $$ Hst
    icases Hst' with ⟨#H1, Hst⟩
    ihave #H2 := (Entails.of_eq hrdy.symm) $$ []
    · isplitr <;> iassumption
    iapply (Rounds.wp_signal 𝒱₀ ER (rd P) (c : Thread nD τ) none (dst := (prv c : Thread nD τ)) (sem := credS) (r := 0) (d := s)
      (κ := K (credCell (prv c))) hmem (amount_cred P (prv c) 0 s) s (owed (s + 1) (s + 1) c) (owed_cred c h) (W := W)) $$ [HO Ht]
    · isplitr; · iapply (inv_own P K κ (cred_mem (prv c))); iexact Hi
      isplitl [HO]; · iexact HO
      isplitl [Ht]; · iexact Ht
      isplitr
      · rw [hpay]; isplitr <;> iassumption
      iexact Hcr
    iintro HO
    iapply Hk
    isplitl [Hst]; · iexact Hst
    isplitl [Hu Hrd]
    · iapply (slot_next c h)
      isplitl [Hu]; · iexact Hu
      isplitl [Hrd]; · iexact Hrd
      iexact H2
    isplitl [Hts]; · iexact Hts
    iexists _; iexact HO
  · have hd : decide (s < 60) = false := decide_eq_false h
    rw [hd, owed_cred_past c (show 60 ≤ s by omega), Finset.Ico_eq_empty_of_le (show 60 ≤ s by omega),
      Finset.Ico_eq_empty_of_le (show 60 ≤ s + 1 by omega)]
    unfold grantK
    iintro ⟨-, Hu, -, -, Hsl, Hst, Hts, HO, Hk⟩
    iapply Hk
    isplitl [Hst]; · iexact Hst
    isplitl [Hu Hsl]
    · iapply (slot_last c h); isplitl [Hu] <;> iassumption
    isplitl [Hts] <;> iassumption

/-! ## One step -/

def stepK (s : ℕ) (hs : s < 62) (k : Pg F) : Pg F :=
  sendK outM sndM rcvM cc0_scratch3 cc0_scratch4 cc0_scratch5 (rightOf c) (sendOff c s) (sendOff_inb c s hs)
    (bf s) (decide (2 ≤ s)) (recvK c s hs (grantK cc0_scratch5 (leftOf c) (decide (s < 60)) k))

theorem step_wp {s : ℕ} (hs : s < 62) (k : Pg F) :
    iprop(known P K κ c ∗ st P c s ∗ (st P c (s + 1) -∗ WPd defs c k Q)) ⊢ WPd defs c (stepK c s hs k) Q := by
  have hout : outAt P (s + 1) c = stepOut c s (outAt P s c) (msgOf (prv c) s (outAt P s (prv c))) := rfl
  unfold stepK st toks
  rw [Idealize.SL.BI.bigSep_Ico_succ_bot hs]
  iintro ⟨#Hkn, ⟨Hs0, Hs1, Ho, Hcs, ⟨⟨Ht, Hts⟩, Hg, Hw⟩, HO⟩, Hk⟩
  ihave Hs0' := (Entails.of_eq (show slotSt c s = _ by unfold slotSt; rw [if_pos hs])) $$ Hs0
  icases Hs0' with ⟨HaS, #HrS, Hsp, HaR, Hrd, -⟩
  iapply (send_wp P K κ c hs)
  isplitr; · iexact Hkn
  isplitl [Ho]; · iexact Ho
  isplitl [Hcs]; · iexact Hcs
  isplitl [Hw]; · iexact Hw
  isplitl [HO]; · iexact HO
  isplitl [Ht]; · iexact Ht
  isplitl [HaS]; · iexact HaS
  isplitr; · iexact HrS
  isplitl [Hsp]; · iexact Hsp
  isplitl [HaR]; · iexact HaR
  iintro ⟨Ho, Hcs, Hw, HO, HaS, #HrS', Hsp, HaR, #HrR, ⟨%g, %hg, Hr⟩⟩
  iapply (recv_wp c hs _ _ g)
  isplitl [Ho]; · iexact Ho
  isplitl [Hr]; · iexact Hr
  iintro ⟨Ho, Hr⟩
  iapply (grant_wp P K κ c hs)
  isplitr; · iexact Hkn
  isplitl [HaS Hsp HaR]
  · unfold slotUsed
    isplitl [HaS]; · iexact HaS
    isplitr; · iexact HrS'
    isplitl [Hsp] <;> iassumption
  isplitr; · iexact HrR
  isplitl [Hrd]; · iexact Hrd
  isplitl [Hr]; · iapply (rSlot_close c (bf s) g); iexact Hr
  isplitl [Hs1]; · iexact Hs1
  isplitl [Hg]; · iexact Hg
  isplitl [HO]; · iexact HO
  iintro ⟨Hs1, Hs2, Hg, HO⟩
  iapply Hk
  isplitl [Hs1]; · iexact Hs1
  isplitl [Hs2]; · iexact Hs2
  isplitl [Ho]; · rw [hout, ← hg]; iexact Ho
  isplitl [Hcs]; · iexact Hcs
  isplitl [Hts Hg Hw]
  · isplitl [Hts]; · iexact Hts
    isplitl [Hg] <;> iassumption
  iexact HO

/-! ## All steps -/

theorem sendK_congr {o o' : Fin 3 → Nat} (e : o = o') (h : ∀ a, o a + S1x16x1024.size a ≤ S1x512x1024.size a)
    (h' : ∀ a, o' a + S1x16x1024.size a ≤ S1x512x1024.size a) {b b' : Fin 2} (eb : b = b') {wt wt' : Bool} (ew : wt = wt') {k k' : Pg F} (ek : k = k') :
    sendK outM sndM rcvM cc0_scratch3 cc0_scratch4 cc0_scratch5 (rightOf c) o h b wt k
      = sendK outM sndM rcvM cc0_scratch3 cc0_scratch4 cc0_scratch5 (rightOf c) o' h' b' wt' k' := by
  subst e eb ew ek; rfl
theorem addK_congr {o o' : Fin 3 → Nat} (e : o = o') (h : ∀ a, o a + S1x16x1024.size a ≤ S1x512x1024.size a)
    (h' : ∀ a, o' a + S1x16x1024.size a ≤ S1x512x1024.size a) {b b' : Fin 2} (eb : b = b') {k k' : Pg F} (ek : k = k') :
    addK outM rcvM o h b k = addK outM rcvM o' h' b' k' := by
  subst e eb ek; rfl
theorem copyK_congr {o o' : Fin 3 → Nat} (e : o = o') (h : ∀ a, o a + S1x16x1024.size a ≤ S1x512x1024.size a)
    (h' : ∀ a, o' a + S1x16x1024.size a ≤ S1x512x1024.size a) {b b' : Fin 2} (eb : b = b') {k k' : Pg F} (ek : k = k') :
    copyK outM rcvM o h b k = copyK outM rcvM o' h' b' k' := by
  subst e eb ek; rfl

theorem rsStep_eq (p : Fin 31) (k : Pg F) :
    rsStep outM sndM rcvM cc0_scratch3 cc0_scratch4 cc0_scratch5 c p k = stepK c p.val (by omega) k := by
  unfold rsStep stepK recvK
  rw [if_pos p.isLt]
  refine sendK_congr c (by unfold sendOff; rw [if_pos p.isLt]) _ _ rfl rfl ?_
  refine addK_congr (by unfold recvOff; rw [if_pos p.isLt]) _ _ rfl ?_
  rw [decide_eq_true (show p.val < 60 by omega)]

theorem agStep_eq (t : Fin 31) (k : Pg F) :
    agStep outM sndM rcvM cc0_scratch3 cc0_scratch4 cc0_scratch5 c t k = stepK c (31 + t.val) (by omega) k := by
  have hn : ¬ 31 + t.val < 31 := by omega
  have ht : 31 + t.val - 31 = t.val := by omega
  have hb : (⟨(t.val + 1) % 2, Nat.mod_lt _ (by decide)⟩ : Fin 2) = bf (31 + t.val) := Fin.ext (by show (t.val + 1) % 2 = (31 + t.val) % 2; omega)
  unfold agStep stepK recvK
  rw [if_neg hn]
  refine sendK_congr c (by unfold sendOff; rw [if_neg hn, ht]) _ _ hb (decide_eq_true (show 2 ≤ 31 + t.val by omega)).symm ?_
  refine copyK_congr (by unfold recvOff; rw [if_neg hn, ht]) _ _ hb ?_
  rw [show decide (t.val < 29) = decide (31 + t.val < 60) from decide_eq_decide.mpr (by omega)]

theorem rs_wp (k : Pg F) : ∀ (n : ℕ) (h : n ≤ 31),
    iprop(known P K κ c ∗ st P c (31 - n) ∗ (st P c 31 -∗ WPd defs c k Q))
      ⊢ WPd defs c (rsFrom outM sndM rcvM cc0_scratch3 cc0_scratch4 cc0_scratch5 c k n h) Q
  | 0, _ => by
    unfold rsFrom
    iintro ⟨-, Hs, Hk⟩
    iapply Hk; iexact Hs
  | n + 1, h => by
    have e1 : 31 - (n + 1) = 30 - n := by omega
    have e2 : 30 - n + 1 = 31 - n := by omega
    unfold rsFrom
    rw [rsStep_eq, e1]
    iintro ⟨#Hkn, Hs, Hk⟩
    iapply (step_wp P K κ c)
    isplitr; · iexact Hkn
    isplitl [Hs]; · iexact Hs
    rw [e2]
    iintro Hs
    iapply (rs_wp k n _)
    isplitr; · iexact Hkn
    isplitl [Hs] <;> iassumption

theorem ag_wp (k : Pg F) : ∀ (n : ℕ) (h : n ≤ 31),
    iprop(known P K κ c ∗ st P c (62 - n) ∗ (st P c 62 -∗ WPd defs c k Q))
      ⊢ WPd defs c (agFrom outM sndM rcvM cc0_scratch3 cc0_scratch4 cc0_scratch5 c k n h) Q
  | 0, _ => by
    unfold agFrom
    iintro ⟨-, Hs, Hk⟩
    iapply Hk; iexact Hs
  | n + 1, h => by
    have e1 : 62 - (n + 1) = 31 + (30 - n) := by omega
    have e2 : 31 + (30 - n) + 1 = 62 - n := by omega
    unfold agFrom
    rw [agStep_eq, e1]
    iintro ⟨#Hkn, Hs, Hk⟩
    iapply (step_wp P K κ c)
    isplitr; · iexact Hkn
    isplitl [Hs]; · iexact Hs
    rw [e2]
    iintro Hs
    iapply (ag_wp k n _)
    isplitr; · iexact Hkn
    isplitl [Hs] <;> iassumption

/-- The sixty-two steps. -/
theorem ring_wp :
    iprop(known P K κ c ∗ st P c 0 ∗ (st P c 62 -∗ WPd defs c (.ret ⟨⟩) Q))
      ⊢ WPd defs c (ringK outM sndM rcvM cc0_scratch3 cc0_scratch4 cc0_scratch5 c) Q := by
  unfold ringK
  iintro ⟨#Hkn, Hs, Hk⟩
  iapply (rs_wp P K κ c _ 31 _)
  isplitr; · iexact Hkn
  isplitl [Hs]; · iexact Hs
  iintro Hs
  iapply (ag_wp P K κ c _ 31 _)
  isplitr; · iexact Hkn
  isplitl [Hs] <;> iassumption

end Cert.Proof
-- ==== Proof.Attn.lean ====
/- The attention part of the body: eight heads put side by side in the scratch buffer, then the output projection. -/
module

public import proofs.«01_k».proof.Proof.Chain
public import Idealize.ShloMosaic.Lib.VecWindow

@[expose] public section

set_option maxRecDepth 16384

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (c : Dev nD)
variable {defs : Defs nD τ sig (Elt F) Λ₀} {Q : PUnit → sProp (MT nD τ sig ℕ (Elt F) ℕ UU ℕ)}

/-! ## The values -/

/-- One column block of 128 per head. -/
abbrev Head (F : FTy → Type) : Type := FVec F S512x128 .f32
/-- The concatenated heads. -/
abbrev Cat (F : FTy → Type) : Type := S512x1024.Idx → Elt F .f32

/-- The attention of head `j` of a device, of the blocks it loads. -/
def headOf (x : S1x512x1024.Idx → Elt F .f32) (wq : S1024x1024.Idx → Elt F .f32) (wk wv : S1024x256.Idx → Elt F .f32) : Fin 8 → Head F
  | 0 => k0_pay6 (k0_pay2 x) (k0_pay3 x wq) (k0_pay4 x wk) wv
  | 1 => k0_pay7 (k0_pay2 x) (k0_pay3 x wq) (k0_pay4 x wk) wv
  | 2 => k0_pay9 (k0_pay4 x wk) (k0_pay5 (k0_pay2 x) wv) (k0_pay8 (k0_pay3 x wq))
  | 3 => k0_pay10 (k0_pay3 x wq) (k0_pay4 x wk) (k0_pay5 (k0_pay2 x) wv)
  | 4 => k0_pay14 (k0_pay11 (k0_pay5 (k0_pay2 x) wv)) (k0_pay12 (k0_pay3 x wq) (k0_pay4 x wk)) (k0_pay13 (F := F))
  | 5 => k0_pay15 (k0_pay3 x wq) (k0_pay4 x wk) (k0_pay5 (k0_pay2 x) wv)
  | 6 => k0_pay18 (k0_pay16 (k0_pay5 (k0_pay2 x) wv)) (k0_pay17 (k0_pay3 x wq) (k0_pay4 x wk))
  | 7 => k0_pay19 (k0_pay3 x wq) (k0_pay4 x wk) (k0_pay5 (k0_pay2 x) wv)

/-- The place of a column within its head's block. -/
def catLocal (y : S512x1024.Idx) : S512x128.Idx :=
  fun a => ⟨if a.val = 0 then (y 0).val else (y 1).val % 128, by
    have h0 : (y 0).val < 512 := (y 0).isLt
    have h1 : (y 1).val % 128 < 128 := Nat.mod_lt _ (by decide)
    match a with
    | ⟨0, _⟩ => exact h0
    | ⟨1, _⟩ => exact h1⟩

/-- The head a column belongs to. -/
def catHead (y : S512x1024.Idx) : Fin 8 := ⟨(y 1).val / 128, by have h1 : (y 1).val < 1024 := (y 1).isLt; omega⟩

/-- The eight heads side by side. -/
def catOf (H : Fin 8 → Head F) : Cat F := fun y => H (catHead y) (catLocal y)

/-- What one device adds to the sum. -/
def partOf (x : S1x512x1024.Idx → Elt F .f32) (wq wo : S1024x1024.Idx → Elt F .f32) (wk wv : S1024x256.Idx → Elt F .f32) : Out F :=
  k0_pay20 (catOf (headOf x wq wk wv)) wo

/-! ## The scratch buffer fills column block by column block -/

/-- The first `n` column blocks are the heads'. -/
def Filled (H : Fin 8 → Head F) (n : ℕ) (g : Cat F) : Prop := ∀ y, (catHead y).val < n → g y = H (catHead y) (catLocal y)

theorem filled_zero (H : Fin 8 → Head F) (g : Cat F) : Filled H 0 g := fun _ h => absurd h (Nat.not_lt_zero _)

theorem filled_all (H : Fin 8 → Head F) {g : Cat F} (h : Filled H 8 g) : g = catOf H := funext fun y => h y (catHead y).isLt

theorem filled_put (H : Fin 8 → Head F) (j : Fin 8) {g : Cat F} (h : Filled H j.val g) {o : ℕ} (ho : o = 128 * j.val) :
    Filled H (j.val + 1) (VecWindow.put (s := S512x1024) g ![0, o] S512x128.size (H j)) := fun y hy => by
  subst ho
  have hc : (catHead y).val = (y 1).val / 128 := rfl
  have h0 : (y 0).val < 512 := (y 0).isLt
  by_cases hlt : (catHead y).val < j.val
  · rw [show VecWindow.put (s := S512x1024) g ![0, 128 * j.val] S512x128.size (H j) y = g y from dif_neg (fun hall => by
      have h1 : 128 * j.val ≤ (y 1).val := (hall 1).1
      omega)]
    exact h y hlt
  · have hj : catHead y = j := Fin.ext (by omega)
    have hin : ∀ a, (![0, 128 * j.val] : Fin 2 → ℕ) a ≤ (y a).val ∧ (y a).val < (![0, 128 * j.val] : Fin 2 → ℕ) a + S512x128.size a := by
      have hv : (y 1).val / 128 = j.val := by rw [← hc, hj]
      intro a
      match a with
      | ⟨0, _⟩ => exact ⟨Nat.zero_le _, by show (y 0).val < 0 + 512; omega⟩
      | ⟨1, _⟩ => exact ⟨by show 128 * j.val ≤ (y 1).val; omega, by show (y 1).val < 128 * j.val + 128; omega⟩
    rw [show VecWindow.put (s := S512x1024) g ![0, 128 * j.val] S512x128.size (H j) y = H j (Rect.unitLocal (s := S512x1024) (off := ![0, 128 * j.val]) (size := S512x128.size) y hin) from dif_pos hin, hj]
    refine congrArg (H j) (funext fun a => Fin.ext ?_)
    have hv : (y 1).val / 128 = j.val := by rw [← hc, hj]
    match a with
    | ⟨0, _⟩ => show (y 0).val - 0 = (y 0).val; omega
    | ⟨1, _⟩ => show (y 1).val - 128 * j.val = (y 1).val % 128; omega

/-! ## Whole loads and stores -/

section Whole

variable {s : Shape} (m : Memref sig .tc .vmem s .f32)

abbrev memPts (f : Buf (Elt F) (m.view.loc (c : Thread nD τ))) : sProp 𝕄 := m.view.loc (c : Thread nD τ) ↦[Finset.univ]{fullShare} f

theorem mem_load (r : Rect s) (f : Buf (Elt F) (m.view.loc (c : Thread nD τ))) (k : (r.shape.Idx → Elt F .f32) → Pg F)
    (hl : m.view.LoadsAt r.toLoadRect) :
    (memPts c m f : sProp 𝕄) ⊢ iprop((memPts c m f -∗ WPd defs c (k ((m.access r).read (Elt F) f)) Q)
      -∗ WPd defs c (Prog.op (TpuEff.load (e := .f32) m r.toLoadRect hl) fun v => k v) Q) :=
  wp_load_rect (m := m) (r := r) (hl := hl) (k := fun v => k v) (S := Finset.univ) (q := fullShare) (f := f)
    𝒱₀ (c : Thread nD τ) none Set.univ (Finset.subset_univ _)

theorem mem_store (r : Rect s) (f : Buf (Elt F) (m.view.loc (c : Thread nD τ))) (w : r.shape.Idx → Elt F .f32) (k : PUnit → Pg F)
    (hx : (m.access r).Stores Finset.univ) (hm : (Finset.univ : Finset r.shape.Idx) = Finset.univ ∨ ∀ a, r.stride a = 1) :
    (memPts c m f : sProp 𝕄) ⊢ iprop((memPts c m ((m.access r).write (Elt F) f w Finset.univ) -∗ WPd defs c (k ⟨⟩) Q)
      -∗ WPd defs c (Prog.op (TpuEff.store (e := .f32) m r w Finset.univ hx hm) k) Q) := by
  have hS : (m.access r).setOn Finset.univ ⊆ Finset.univ := Finset.subset_univ _
  have h := wp_store (m := m) (r := r) (w := w) (Mk := Finset.univ) (hx := hx) (hm := hm) (k := k) (S := Finset.univ) (f := f)
    (defs := defs) (Q := Q) (Γ := .empty) 𝒱₀ (c : Thread nD τ) none Set.univ hS
  exact h

/-- A load of a whole buffer gives what it holds. -/
theorem mem_load_full {off : Fin s.rank → ℕ} (inb : ∀ a, off a + s.size a ≤ s.size a) (f : Buf (Elt F) (m.view.loc (c : Thread nD τ)))
    (x : s.Idx → Elt F .f32) (hx : m.view.read (Elt F) f = x) (k : (s.Idx → Elt F .f32) → Pg F)
    (hl : m.view.LoadsAt (Rect.unit off s.size inb).toLoadRect) :
    (memPts c m f : sProp 𝕄) ⊢ iprop((memPts c m f -∗ WPd defs c (k x) Q)
      -∗ WPd defs c (Prog.op (TpuEff.load (e := .f32) m (Rect.unit off s.size inb).toLoadRect hl) fun v => k v) Q) := by
  have h := mem_load (defs := defs) (Q := Q) c m (Rect.unit off s.size inb) f k hl
  have e : (m.access (Rect.unit off s.size inb)).read (Elt F) f = x := (View.readAt_full m.view f inb).trans hx
  rw [e] at h
  exact h

end Whole

/-! ## The heads -/

/-- The concatenation buffer. -/
abbrev catM : Memref sig .tc .vmem S512x1024 .f32 := Memref.whole cc0_scratch0

/-- The concatenation buffer with its first `n` column blocks filled. -/
def catPts (H : Fin 8 → Head F) (n : ℕ) : sProp 𝕄 :=
  iprop(∃ g : Buf (Elt F) (catM.view.loc (c : Thread nD τ)), ⌜Filled H n (catM.view.read (Elt F) g)⌝ ∗ memPts c catM g)

/-- A store over a window of a buffer, as the buffer reads. -/
theorem read_store {s : Shape} (m : Memref sig .tc .vmem s .f32) (f : m.view.ty.Contents (Elt F)) {off size : Fin s.rank → ℕ}
    (inb : ∀ a, off a + size a ≤ s.size a) (w : (Rect.unit off size inb).shape.Idx → Elt F .f32) :
    m.view.read (Elt F) ((m.access (Rect.unit off size inb)).write (Elt F) f w Finset.univ)
      = VecWindow.put (m.view.read (Elt F) f) off size w :=
  View.read_writes_cons_put m.view f inb w [] rfl

theorem head_wp (H : Fin 8 → Head F) (j : Fin 8) (n : ℕ) (hn : j.val = n) {o : ℕ} (ho : o = 128 * j.val)
    (h : ∀ a, (![0, o] : Fin 2 → Nat) a + S512x128.size a ≤ S512x1024.size a) (v : Head F) (hv : v = H j) (k : Pg F) :
    (catPts c H n : sProp 𝕄) ⊢ iprop((catPts c H (n + 1) -∗ WPd defs c k Q) -∗ WPd defs c (headK catM o h v k) Q) := by
  subst hn hv
  unfold headK catPts
  iintro ⟨%g, %hg, Hm⟩ Hk
  iapply (mem_load c catM) $$ Hm
  iintro Hm
  iapply (mem_store c catM) $$ Hm
  iintro Hm
  iapply Hk
  iexists _
  isplitr
  rotate_left
  · iexact Hm
  ipureintro
  rw [read_store catM g h (H j)]
  exact filled_put H j hg ho

/-- A store of a whole buffer leaves what is stored. -/
theorem read_store_full {s : Shape} (m : Memref sig .tc .vmem s .f32) (f : m.view.ty.Contents (Elt F)) {off : Fin s.rank → ℕ}
    (inb : ∀ a, off a + s.size a ≤ s.size a) (w : s.Idx → Elt F .f32) :
    m.view.read (Elt F) ((m.access (Rect.unit off s.size inb)).write (Elt F) f w Finset.univ) = w :=
  View.read_writes_full m.view f inb w []

theorem out_read (f : Out F) : outM.view.read (Elt F) f = f := rfl

/-! ## The whole part -/

theorem attn_wp (m0 : Memref sig .tc .vmem S1x512x1024 .f32) (m1 m2 : Memref sig .tc .vmem S1024x1024 .f32)
    (m3 m4 : Memref sig .tc .vmem S1024x256 .f32) (f0 : Buf (Elt F) (m0.view.loc (c : Thread nD τ)))
    (f1 : Buf (Elt F) (m1.view.loc (c : Thread nD τ))) (f2 : Buf (Elt F) (m2.view.loc (c : Thread nD τ)))
    (f3 : Buf (Elt F) (m3.view.loc (c : Thread nD τ))) (f4 : Buf (Elt F) (m4.view.loc (c : Thread nD τ)))
    (x : S1x512x1024.Idx → Elt F .f32) (wq wo : S1024x1024.Idx → Elt F .f32) (wk wv : S1024x256.Idx → Elt F .f32)
    (h0 : m0.view.read (Elt F) f0 = x) (h1 : m1.view.read (Elt F) f1 = wq) (h2 : m2.view.read (Elt F) f2 = wo)
    (h3 : m3.view.read (Elt F) f3 = wk) (h4 : m4.view.read (Elt F) f4 = wv) (k : Pg F) :
    iprop(memPts c m0 f0 ∗ memPts c m1 f1 ∗ memPts c m2 f2 ∗ memPts c m3 f3 ∗ memPts c m4 f4 ∗ (∃ f, outPts c f) ∗ (∃ g, memPts c catM g)
      ∗ (memPts c m0 f0 ∗ memPts c m1 f1 ∗ memPts c m2 f2 ∗ memPts c m3 f3 ∗ memPts c m4 f4 ∗ outPts c (partOf x wq wo wk wv)
          ∗ (∃ g, memPts c catM g) -∗ WPd defs c k Q))
    ⊢ WPd defs c (attnK m0 m1 m2 m3 m4 outM catM k) Q := by
  unfold attnK
  iintro ⟨H0, H1, H2, H3, H4, ⟨%fo, Ho⟩, ⟨%g, Hg⟩, Hk⟩
  iapply (mem_load_full c m0 _ f0 x h0) $$ H0
  iintro H0
  iapply (mem_load_full c m1 _ f1 wq h1) $$ H1
  iintro H1
  iapply (mem_load_full c m3 _ f3 wk h3) $$ H3
  iintro H3
  iapply (mem_load_full c m4 _ f4 wv h4) $$ H4
  iintro H4
  ihave Hc : catPts c (headOf x wq wk wv) 0 $$ [Hg]
  · unfold catPts
    iexists g
    isplitr; · ipureintro; exact filled_zero _ _
    iexact Hg
  iapply (head_wp c (headOf x wq wk wv) 0 0 rfl (o := 0) rfl _ _ rfl) $$ Hc
  iintro Hc
  iapply (head_wp c (headOf x wq wk wv) 1 1 rfl (o := 128) rfl _ _ rfl) $$ Hc
  iintro Hc
  iapply (head_wp c (headOf x wq wk wv) 2 2 rfl (o := 256) rfl _ _ rfl) $$ Hc
  iintro Hc
  iapply (head_wp c (headOf x wq wk wv) 3 3 rfl (o := 384) rfl _ _ rfl) $$ Hc
  iintro Hc
  iapply (head_wp c (headOf x wq wk wv) 4 4 rfl (o := 512) rfl _ _ rfl) $$ Hc
  iintro Hc
  iapply (head_wp c (headOf x wq wk wv) 5 5 rfl (o := 640) rfl _ _ rfl) $$ Hc
  iintro Hc
  iapply (head_wp c (headOf x wq wk wv) 6 6 rfl (o := 768) rfl _ _ rfl) $$ Hc
  iintro Hc
  iapply (head_wp c (headOf x wq wk wv) 7 7 rfl (o := 896) rfl _ _ rfl) $$ Hc
  iintro Hc
  unfold catPts
  icases Hc with ⟨%g', %hg, Hg⟩
  iapply (mem_load_full c catM _ g' _ (filled_all _ hg)) $$ Hg
  iintro Hg
  iapply (mem_load_full c m2 _ f2 wo h2) $$ H2
  iintro H2
  iapply (mem_load_full c outM _ fo fo rfl) $$ Ho
  iintro Ho
  iapply (mem_store c outM) $$ Ho
  iintro Ho
  iapply Hk
  isplitl [H0]; · iexact H0
  isplitl [H1]; · iexact H1
  isplitl [H2]; · iexact H2
  isplitl [H3]; · iexact H3
  isplitl [H4]; · iexact H4
  isplitl [Ho]
  · have e := read_store_full outM fo inb_S1x512x1024_S1x512x1024_0_0_0 (partOf x wq wo wk wv)
    rw [out_read] at e
    have e' := congrArg (fun f => (outPts c f : sProp 𝕄)) e
    iapply (Entails.of_eq e')
    iexact Ho
  iexists _; iexact Hg

end Cert.Proof
-- ==== Proof.Entry.lean ====
/- The whole body: the attention part, the handshake with both neighbours, the ring, and the end, where every counter is back. -/
module

public import proofs.«01_k».proof.Proof.Attn

@[expose] public section

set_option maxRecDepth 16384

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (P : Dev nD → Out F) (K : GSem nD τ sig → ℕ) (κ : SlotKey → ℕ) (c : Dev nD)
variable {defs : Defs nD τ sig (Elt F) Λ₀} {Q : PUnit → sProp (MT nD τ sig ℕ (Elt F) ℕ UU ℕ)}

/-! ## A buffer of two slots -/

theorem slots_disj : ∀ b b' : Fin 2, b ≠ b' → Disjoint (slotRect b).set (slotRect b').set := fun b b' hne => by
  rw [Finset.disjoint_left]
  intro i h h'
  have h1 := (Rect.mem_set_unit.mp h) 0
  have h2 := (Rect.mem_set_unit.mp h') 0
  have e1 : b.val ≤ (i 0).val ∧ (i 0).val < b.val + 1 := h1
  have e2 : b'.val ≤ (i 0).val ∧ (i 0).val < b'.val + 1 := h2
  exact hne (Fin.ext (by omega))

theorem slots_cover : Finset.univ.biUnion (fun b : Fin 2 => (slotRect b).set) = Finset.univ := by
  refine Finset.eq_univ_iff_forall.mpr fun i => Finset.mem_biUnion.mpr ⟨⟨(i 0).val, (i 0).isLt⟩, Finset.mem_univ _, Rect.mem_set_unit.mpr fun a => ?_⟩
  have h1 : (i 1).val < 16 := (i 1).isLt
  have h2 : (i 2).val < 1024 := (i 2).isLt
  match a with
  | ⟨0, _⟩ => exact ⟨Nat.le_refl (i 0).val, Nat.lt_succ_self (i 0).val⟩
  | ⟨1, _⟩ => exact ⟨Nat.zero_le _, by show (i 1).val < 0 + 16; omega⟩
  | ⟨2, _⟩ => exact ⟨Nat.zero_le _, by show (i 2).val < 0 + 1024; omega⟩

theorem snd_rect (b : Fin 2) : (slotRef sndM b).view.set = (slotRect b).set := (snd_set b).trans (View.set_slice_whole cc0_scratch1 (slotRect b))
theorem rcv_rect (b : Fin 2) : (slotRef rcvM b).view.set = (slotRect b).set := (rcv_set b).trans (View.set_slice_whole cc0_scratch2 (slotRect b))

/-- A family of two, one by one. -/
theorem two (Φ : Fin 2 → sProp 𝕄) : bigSep Finset.univ Φ = iprop(Φ 0 ∗ Φ 1) := bigSep_fin_two Φ

theorem mem_blocks {s : Shape} (m : Memref sig .tc .vmem s .f32) (I : Fin 2 → Finset (Idx (m.view.loc (c : Thread nD τ))))
    (hd : ∀ b b', b ≠ b' → Disjoint (I b) (I b')) (hc : Finset.univ.biUnion I = Finset.univ) (f : Buf (Elt F) (m.view.loc (c : Thread nD τ))) :
    (memPts c m f : sProp 𝕄) ⊢ iprop((m.view.loc (c : Thread nD τ) ↦[I 0]{fullShare} f) ∗ (m.view.loc (c : Thread nD τ) ↦[I 1]{fullShare} f)) :=
  Entails.of_eq ((Ring.pointsTo_blocks I hd hc f).trans (two _))

theorem mem_join {s : Shape} (m : Memref sig .tc .vmem s .f32) (I : Fin 2 → Finset (Idx (m.view.loc (c : Thread nD τ))))
    (hd : ∀ b b', b ≠ b' → Disjoint (I b) (I b')) (hc : Finset.univ.biUnion I = Finset.univ) (f₀ : Buf (Elt F) (m.view.loc (c : Thread nD τ))) :
    iprop((∃ f, m.view.loc (c : Thread nD τ) ↦[I 0]{fullShare} f) ∗ (∃ f, m.view.loc (c : Thread nD τ) ↦[I 1]{fullShare} f))
      ⊢ (iprop(∃ f, memPts c m f) : sProp 𝕄) :=
  (Entails.of_eq (two (fun b => iprop(∃ f, m.view.loc (c : Thread nD τ) ↦[I b]{fullShare} f))).symm).trans (Ring.pointsTo_blocks_join_exists I hd hc f₀)

theorem snd_at (b : Fin 2) (f : S2x16x1024.Idx → Elt F .f32) :
    (sPts c b f : sProp 𝕄) = (sndM.view.loc (c : Thread nD τ) ↦[(slotRect b).set]{fullShare} f) :=
  congrArg (fun S => (sndM.view.loc (c : Thread nD τ) ↦[S]{fullShare} f : sProp 𝕄)) (snd_rect b)

theorem snd_split (f : S2x16x1024.Idx → Elt F .f32) : (memPts c sndM f : sProp 𝕄) ⊢ iprop(sPts c 0 f ∗ sPts c 1 f) := by
  rw [snd_at, snd_at]
  exact mem_blocks c sndM (fun b => (slotRect b).set) slots_disj slots_cover f

theorem snd_join (f₀ : S2x16x1024.Idx → Elt F .f32) : iprop((∃ f, sPts (F := F) c 0 f) ∗ (∃ f, sPts c 1 f)) ⊢ iprop(∃ f, memPts c sndM f) := by
  simp only [snd_at]
  exact mem_join c sndM (fun b => (slotRect b).set) slots_disj slots_cover f₀

theorem rcv_at (b : Fin 2) (f : S2x16x1024.Idx → Elt F .f32) :
    (rPts c b f : sProp 𝕄) = (rcvM.view.loc (c : Thread nD τ) ↦[(slotRect b).set]{fullShare} f) :=
  congrArg (fun S => (rcvM.view.loc (c : Thread nD τ) ↦[S]{fullShare} f : sProp 𝕄)) (rcv_rect b)

theorem rcv_split (f : S2x16x1024.Idx → Elt F .f32) : (memPts c rcvM f : sProp 𝕄) ⊢ iprop(rPts c 0 f ∗ rPts c 1 f) := by
  rw [rcv_at, rcv_at]
  exact mem_blocks c rcvM (fun b => (slotRect b).set) slots_disj slots_cover f

theorem rcv_join (f₀ : S2x16x1024.Idx → Elt F .f32) : iprop((∃ f, rPts (F := F) c 0 f) ∗ (∃ f, rPts c 1 f)) ⊢ iprop(∃ f, memPts c rcvM f) := by
  simp only [rcv_at]
  exact mem_join c rcvM (fun b => (slotRect b).set) slots_disj slots_cover f₀

/-! ## Before the handshake -/

/-- A receive slot is released for its first step. -/
theorem release_first (j : ℕ) (h0 : j / 2 = 0) :
    iprop(invs P K κ ∗ readerAt ES ((c, bf j) : SlotKey) 0 ∗ rSlot (c, bf j) ∗ reached ER (recvCell c (bf j)) 0)
      ⊢ (|={Set.univ}=> (readerAt ES ((c, bf j) : SlotKey) (j / 2 + 1) ∗ ready c j) : sProp 𝕄) := by
  have hff : iprop(rSlot (F := F) (c, bf j) ∗ rSlot (c, bf j)) ⊢ (False : sProp 𝕄) := slot_slot_false (rcv_nonempty (bf j))
  unfold ready
  rw [h0]
  iintro ⟨#Hi, Hrd, Hsl, #Hr⟩
  ihave #Hinv := (inv_slot P K κ (c, bf j)) $$ Hi
  imod (slot_release ES (Set.mem_univ (κ (c, bf j))) hff 0) $$ [Hrd Hsl] with ⟨Hrd, #Hrel⟩
  · isplitr; · iexact Hinv
    isplitl [Hrd] <;> iassumption
  imodintro
  isplitl [Hrd]; · iexact Hrd
  isplitr <;> iassumption

/-- Owed before the handshake. -/
def owedStart : CellTallies nD τ sig ℕ := owed 0 0 c + tallyAt (barCell (nxt c)) 0 1 + tallyAt (barCell (prv c)) 0 1

/-- What the handshake uses up. -/
def barTok : sProp 𝕄 :=
  iprop(dutyTok ER (barCell (prv c)) 0 0 ∗ dutyTok ER (barCell (nxt c)) 0 1 ∗ cred (tallyAt (barCell c) 0 2)
    ∗ atPos ER (barCell c) 0 ∅ 0)

/-- The barriers of both neighbours are open. -/
def barOpen : sProp 𝕄 := iprop(reached ER (barCell (prv c)) 0 ∗ reached ER (barCell (nxt c)) 0)

instance barOpen_persistent : BI.Persistent (barOpen (F := F) c) := by unfold barOpen; infer_instance

theorem barrier_wp (k : Pg F) :
    iprop(invs P K κ ∗ levAts L lv ∗ barOpen c ∗ barTok c ∗ ready c 0 ∗ ready c 1 ∗ reached ER (credCell c) 0 ∗ owesAny c (owedStart c)
      ∗ (known P K κ c ∗ atPos ER (barCell c) 1 ∅ 0 ∗ owesAny c (owed 0 0 c) -∗ WPd defs c k Q))
    ⊢ WPd defs c (barrierK c k) Q := by
  have hm0 : (0 : ℕ) ∈ (rd P).duties (barCell (prv c)) 0 := by rw [duties_bar]; decide
  have hm1 : (1 : ℕ) ∈ (rd P).duties (barCell (nxt c)) 0 := by rw [duties_bar]; decide
  have hp0 : (rd P).payload (barCell (prv c)) 0 0 = iprop(ready c 0 ∗ ready c 1) := by
    rw [payload_bar0]; unfold barPayR; rw [nxt_prv]
  have hp1 : (rd P).payload (barCell (nxt c)) 0 1 = reached ER (credCell c) 0 := by
    rw [payload_bar1]; unfold barPayL; rw [prv_nxt]
  have hmay : (levAts L lv : sProp (MT nD τ sig ℕ (Elt F) ℕ UU ℕ)) ⊢ MayWait (c : Thread nD τ) (.reg barS) 0 (owed 0 0 c) :=
    mayWait c (.reg barS) 0 (by omega) (by rw [lv_bar]; omega) (by rw [lv_bar]; omega)
  unfold barrierK owesAny barTok barOpen known
  iintro ⟨#Hi, #Hlev, ⟨#Hb0, #Hb1⟩, ⟨Ht0, Ht1, Hc, Hat⟩, #H0, #H1, #Hcr, ⟨%W, HO⟩, Hk⟩
  iapply (Rounds.wp_signal 𝒱₀ ER (rd P) (c : Thread nD τ) none (dst := (prv c : Thread nD τ)) (sem := barS) (r := 0) (d := 0)
      (κ := K (barCell (prv c))) hm0 (amount_bar P (prv c) 0 0) 0 (owed 0 0 c + tallyAt (barCell (nxt c)) 0 1) rfl (W := W)) $$ [HO Ht0]
  · isplitr; · iapply (inv_bar P K κ (prv c)); iexact Hi
    isplitl [HO]; · iexact HO
    isplitl [Ht0]; · iexact Ht0
    isplitr
    · rw [hp0]; isplitr <;> iassumption
    iexact Hb0
  iintro HO
  iapply (Rounds.wp_signal 𝒱₀ ER (rd P) (c : Thread nD τ) none (dst := (nxt c : Thread nD τ)) (sem := barS) (r := 0) (d := 1)
      (κ := K (barCell (nxt c))) hm1 (amount_bar P (nxt c) 0 1) 0 (owed 0 0 c) rfl (W := W)) $$ [HO Ht1]
  · isplitr; · iapply (inv_bar P K κ (nxt c)); iexact Hi
    isplitl [HO]; · iexact HO
    isplitl [Ht1]; · iexact Ht1
    isplitr
    · rw [hp1]; iexact Hcr
    iexact Hb1
  iintro HO
  iapply (Rounds.wp_wait_rest_token 𝒱₀ ER (rd P) (c : Thread nD τ) none (κ := K (barCell c))
      (wpE_semWait_eq 𝒱₀ (c : Thread nD τ) none Set.univ) (Set.mem_univ _) 0 (O := owed 0 0 c) (W := W) (R := 0) (m := 0) (T := ∅)
      ((Nat.zero_add 2).trans (expect_bar P c).symm)) $$ [Hc HO Hat]
  · isplitr; · iapply (inv_bar P K κ c); iexact Hi
    isplitl [Hc]; · iexact Hc
    isplitl [HO]; · iexact HO
    isplitr; · iapply hmay; iexact Hlev
    iexact Hat
  iintro ⟨HO, Hat, -, Hpay⟩
  ihave Hp := (Entails.of_eq (rest_bar P c)) $$ Hpay
  unfold barPayR barPayL
  icases Hp with ⟨⟨#Hn0, #Hn1⟩, #Hcn⟩
  iapply Hk
  isplitr
  · isplitr; · iexact Hi
    isplitr; · iexact Hlev
    isplitr; · iexact Hn0
    isplitr; · iexact Hn1
    iexact Hcn
  isplitl [Hat]; · iexact Hat
  iexists _; iexact HO

/-! ## The end -/

/-- What is left of a slot once the ring is done: both ends of its copies closed, the buffers back. -/
def slotEnd (b : Fin 2) : sProp 𝕄 :=
  iprop(semVal (sendCell c b) 0 ∗ semVal (recvCell c b) 0 ∗ (∃ f, sPts c b f) ∗ ∃ f, rPts c b f)

theorem close_slot {j : ℕ} (hj : 62 ≤ j) (h2 : j / 2 = 31) :
    iprop(invs P K κ ∗ slotSt c j) ⊢ (|={Set.univ}=> slotEnd c (bf j) : sProp 𝕄) := by
  unfold slotSt slotEnd
  rw [if_neg (show ¬ j < 62 by omega), h2]
  iintro ⟨#Hi, HaS, -, Hs, HaR, Hr⟩
  imod (Rounds.cell_close ER (rd P) (g := sendCell c (bf j)) (Set.mem_univ (K (sendCell c (bf j)))) id (later_send P c (bf j))) $$ [HaS] with H1
  · isplitr; · iapply (inv_own P K κ (send_mem c (bf j))); iexact Hi
    iexact HaS
  imod (Rounds.cell_close ER (rd P) (g := recvCell c (bf j)) (Set.mem_univ (K (recvCell c (bf j)))) id (later_recv P c (bf j))) $$ [HaR] with H2
  · isplitr; · iapply (inv_own P K κ (recv_mem c (bf j))); iexact Hi
    iexact HaR
  imodintro
  isplitl [H1]; · iexact H1
  isplitl [H2]; · iexact H2
  isplitl [Hs]; · iexact Hs
  iapply (rSlot_open c (bf j)); iexact Hr

theorem close_cred : iprop(invs P K κ ∗ credSt c 62) ⊢ (|={Set.univ}=> semVal (credCell c) 0 : sProp 𝕄) := by
  unfold credSt
  iintro ⟨#Hi, ⟨%T, %hT, Hat, -⟩⟩
  have hsub : (rd P).duties (credCell c) 0 ⊆ T := by
    rw [duties_cred]
    exact (Finset.eq_of_subset_of_card_le hT.1 (by rw [Finset.card_range]; omega)).ge
  imod (Rounds.fupd_skip ER (rd P) (g := credCell c) (κ := K (credCell c)) hsub (expect_cred P c).symm (Set.mem_univ _)) $$ [Hat] with ⟨Hat, -⟩
  · isplitr; · iapply (inv_own P K κ (cred_mem c)); iexact Hi
    iexact Hat
  imod (Rounds.cell_close ER (rd P) (g := credCell c) (Set.mem_univ (K (credCell c))) id (later_cred P c)) $$ [Hat] with H1
  · isplitr; · iapply (inv_own P K κ (cred_mem c)); iexact Hi
    iexact Hat
  imodintro
  iexact H1

theorem close_bar : iprop(invs P K κ ∗ atPos ER (barCell c) 1 ∅ 0) ⊢ (|={Set.univ}=> semVal (barCell c) 0 : sProp 𝕄) := by
  iintro ⟨#Hi, Hat⟩
  imod (Rounds.cell_close ER (rd P) (g := barCell c) (Set.mem_univ (K (barCell c))) id (later_bar P c)) $$ [Hat] with H1
  · isplitr; · iapply (inv_bar P K κ c); iexact Hi
    iexact Hat
  imodintro
  iexact H1

/-- After the ring: every counter at zero, the buffers back, the result in the output buffer, nothing owed. -/
def ringEnd : sProp 𝕄 :=
  iprop(semVal (barCell c) 0 ∗ semVal (credCell c) 0 ∗ slotEnd c 0 ∗ slotEnd c 1 ∗ outPts c (outAt P 62 c) ∗ owesAny c 0)

theorem close_all : iprop(invs P K κ ∗ st P c 62 ∗ atPos ER (barCell c) 1 ∅ 0) ⊢ (|={Set.univ}=> ringEnd P c : sProp 𝕄) := by
  unfold st ringEnd
  rw [owed_end]
  iintro ⟨#Hi, ⟨Hs0, Hs1, Ho, Hc, -, HO⟩, Hb⟩
  imod (close_bar P K κ c) $$ [Hb] with H1
  · isplitr <;> iassumption
  imod (close_cred P K κ c) $$ [Hc] with H2
  · isplitr <;> iassumption
  imod (close_slot P K κ c (show 62 ≤ 62 by omega) rfl) $$ [Hs0] with H3
  · isplitr <;> iassumption
  imod (close_slot P K κ c (show 62 ≤ 62 + 1 by omega) rfl) $$ [Hs1] with H4
  · isplitr <;> iassumption
  imodintro
  isplitl [H1]; · iexact H1
  isplitl [H2]; · iexact H2
  isplitl [H3]; · iexact H3
  isplitl [H4]; · iexact H4
  isplitl [Ho] <;> iassumption

/-! ## From the opened cells to the end -/

/-- A slot's two cells just opened, and the count of its receive slot. -/
def slotOpen (b : Fin 2) : sProp 𝕄 :=
  iprop(atPos ER (sendCell c b) 0 ∅ 0 ∗ reached ER (sendCell c b) 0 ∗ atPos ER (recvCell c b) 0 ∅ 0 ∗ reached ER (recvCell c b) 0
    ∗ readerAt ES ((c, b) : SlotKey) 0)

theorem slot_first (j : ℕ) (h0 : j / 2 = 0) (f g : S2x16x1024.Idx → Elt F .f32) :
    iprop(invs P K κ ∗ slotOpen c (bf j) ∗ sPts c (bf j) f ∗ rPts c (bf j) g)
      ⊢ (|={Set.univ}=> (slotSt c j ∗ ready c j) : sProp 𝕄) := by
  have hl : j < 62 := by omega
  unfold slotOpen slotSt
  rw [if_pos hl]
  iintro ⟨#Hi, ⟨H1, H2, H3, #H4, H5⟩, Hs, Hr⟩
  imod (release_first P K κ c j h0) $$ [H5 Hr] with ⟨H5, #H6⟩
  · isplitr; · iexact Hi
    isplitl [H5]; · iexact H5
    isplitl [Hr]
    · iapply (rSlot_close c (bf j) g); iexact Hr
    iexact H4
  imodintro
  rw [h0]
  isplitl [H1 H2 H3 H5 Hs]
  · isplitl [H1]; · iexact H1
    isplitl [H2]; · iexact H2
    isplitl [Hs]; · iexists f; iexact Hs
    isplitl [H3]; · iexact H3
    isplitl [H5]; · iexact H5
    iexact H6
  iexact H6

theorem cred_first : atPos ER (credCell c) 0 ∅ 0 ⊢ (credSt c 0 : sProp 𝕄) := by
  unfold credSt
  iintro H
  iexists ∅
  isplitr; · ipureintro; exact ⟨Finset.empty_subset _, Nat.zero_le _⟩
  isplitl [H]; · iexact H
  rw [bigSep_empty]; iempintro

/-- What the body starts from, the buffers aside. -/
def opened : sProp 𝕄 :=
  iprop(invs P K κ ∗ levAts L lv ∗ barOpen c ∗ barTok c ∗ slotOpen c 0 ∗ slotOpen c 1
    ∗ (atPos ER (credCell c) 0 ∅ 0 ∗ reached ER (credCell c) 0) ∗ toks c 0)

theorem ret_wp : (|={Set.univ}=> Q ⟨⟩ : sProp 𝕄) ⊢ WPd defs c (.ret ⟨⟩) Q := by
  unfold WPd
  rw [wp_ret]

theorem tail_wp (f g : S2x16x1024.Idx → Elt F .f32) :
    iprop(opened P K κ c ∗ memPts c sndM f ∗ memPts c rcvM g ∗ outPts c (P c) ∗ owesAny c (owedStart c) ∗ (ringEnd P c -∗ Q ⟨⟩))
    ⊢ WPd defs c (barrierK c (ringK outM sndM rcvM cc0_scratch3 cc0_scratch4 cc0_scratch5 c)) Q := by
  unfold opened
  iintro ⟨⟨#Hi, #Hlev, #Hbo, Hbt, Hs0, Hs1, ⟨Hc, #Hcr⟩, Ht⟩, Hs, Hr, Ho, HO, Hk⟩
  ihave Hs' := (snd_split c f) $$ Hs
  icases Hs' with ⟨Hsa, Hsb⟩
  ihave Hr' := (rcv_split c g) $$ Hr
  icases Hr' with ⟨Hra, Hrb⟩
  imod (slot_first P K κ c 0 rfl f g) $$ [Hs0 Hsa Hra] with ⟨Hs0, #Hr0⟩
  · isplitr; · iexact Hi
    isplitl [Hs0]; · iexact Hs0
    isplitl [Hsa]; · iexact Hsa
    iexact Hra
  imod (slot_first P K κ c 1 rfl f g) $$ [Hs1 Hsb Hrb] with ⟨Hs1, #Hr1⟩
  · isplitr; · iexact Hi
    isplitl [Hs1]; · iexact Hs1
    isplitl [Hsb]; · iexact Hsb
    iexact Hrb
  iapply (barrier_wp P K κ c)
  isplitr; · iexact Hi
  isplitr; · iexact Hlev
  isplitr; · iexact Hbo
  isplitl [Hbt]; · iexact Hbt
  isplitr; · iexact Hr0
  isplitr; · iexact Hr1
  isplitr; · iexact Hcr
  isplitl [HO]; · iexact HO
  iintro ⟨#Hkn, Hb, HO⟩
  iapply (ring_wp P K κ c)
  isplitr; · iexact Hkn
  isplitl [Hs0 Hs1 Ho Hc Ht HO]
  · unfold st
    isplitl [Hs0]; · iexact Hs0
    isplitl [Hs1]; · iexact Hs1
    isplitl [Ho]; · iexact Ho
    isplitl [Hc]; · iapply (cred_first c); iexact Hc
    isplitl [Ht] <;> iassumption
  iintro Hst
  iapply ret_wp
  imod (close_all P K κ c) $$ [Hst Hb] with Hend
  · isplitr; · iexact Hi
    isplitl [Hst] <;> iassumption
  imodintro
  iapply Hk
  iexact Hend

end Cert.Proof
-- ==== Proof.Body.lean ====
/- The kernel region's proof data and its body: from the fetched operands and the opened cells to the sum in the result's
   staging buffer and every counter at zero. -/
module

public import proofs.«01_k».proof.Proof.Entry
public import proofs.«01_k».proof.Proof.Gen.KernelIdeal.Regions
public import proofs.«01_k».proof.Proof.Gen.KernelIdeal.Points
public import Idealize.ShloMosaic.Lib.Pipeline.Value

@[expose] public section

set_option maxRecDepth 16384

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (BodyObligation Dat)

variable {F : FTy → Type} [FloatOps F]

local notation "𝕄" => MT nD τ sig ℕ (Elt F) ℕ UU ℕ

variable (m : (ℓ : Loc nD τ sig) → Buf (Elt F) ℓ)

/-! ## What the region starts from -/

/-- What device `c` computes before the ring: its heads' attention through its rows of the output matrix. -/
def part (c : Dev nD) : Out F :=
  partOf (V1 m c main_arg0) (V1 m c main_arg1) (V1 m c main_arg4) (V1 m c main_v9) (V1 m c main_v14)

/-- What every device's result holds at the end. -/
abbrev total (c : Dev nD) : Out F := outAt (part m) 62 c

/-- The receive buffer, the send buffer and the buffer of the heads, at contents not named. -/
def scratch (c : Dev nD) : sProp 𝕄 :=
  iprop((∃ f, memPts c catM f) ∗ (∃ f, memPts c sndM f) ∗ ∃ f, memPts c rcvM f)

/-- The kernel's own counters at zero. -/
def ownZero (c : Dev nD) : sProp 𝕄 :=
  iprop(semVal (credCell c) 0 ∗ semVal (sendCell c 0) 0 ∗ semVal (sendCell c 1) 0 ∗ semVal (recvCell c 0) 0 ∗ semVal (recvCell c 1) 0)

/-- Before the body, and after it. -/
def phiIn (c : Dev nD) : sProp 𝕄 := iprop((∃ K κ, opened (part m) K κ c) ∗ scratch c ∗ ∃ r, prngReg c r)
def phiOut (c : Dev nD) : sProp 𝕄 := iprop((semVal (barCell c) 0 ∗ ownZero c) ∗ scratch c ∗ ∃ r, prngReg c r)

def dat0 (c : Dev nD) : Dat τ (Elt F) ℕ ℕ UU ℕ cfg0 c where
  A w := match w with
    | ⟨0, _⟩ => V1 m c main_arg0
    | ⟨1, _⟩ => V1 m c main_arg1
    | ⟨2, _⟩ => V1 m c main_arg4
    | ⟨3, _⟩ => V1 m c main_v9
    | ⟨4, _⟩ => V1 m c main_v14
    | ⟨5, _⟩ => V1 m c main_v15
  after w _ := match w with
    | ⟨0, _⟩ => V1 m c main_arg0
    | ⟨1, _⟩ => V1 m c main_arg1
    | ⟨2, _⟩ => V1 m c main_arg4
    | ⟨3, _⟩ => V1 m c main_v9
    | ⟨4, _⟩ => V1 m c main_v14
    | ⟨5, _⟩ => total m c
  Φ t := if t.val = 0 then phiIn m c else phiOut c
  q _ := fullShare
  owed t := if t.val = 0 then owedStart c else 0

theorem phi_first (c : Dev nD) : (dat0 m c).Φ t0_0.castSucc = phiIn m c := by
  show (if (t0_0.castSucc : Fin (cfg0.N + 1)).val = 0 then phiIn m c else phiOut c) = _; exact if_pos rfl
theorem phi_last (c : Dev nD) : (dat0 m c).Φ t0_0.succ = phiOut c := by
  show (if (t0_0.succ : Fin (cfg0.N + 1)).val = 0 then phiIn m c else phiOut c) = _; exact if_neg (Nat.succ_ne_zero _)
theorem owed_first (c : Dev nD) : (dat0 m c).owed t0_0.castSucc = owedStart c := by
  show (if (t0_0.castSucc : Fin (cfg0.N + 1)).val = 0 then owedStart c else 0) = _; exact if_pos rfl
theorem owed_last (c : Dev nD) : (dat0 m c).owed t0_0.succ = 0 := by
  show (if (t0_0.succ : Fin (cfg0.N + 1)).val = 0 then owedStart c else 0) = _; exact if_neg (Nat.succ_ne_zero _)

theorem owes_in {cfg : Pipeline.Cfg sig Λ₀} {c : Dev nD} (dat : Dat τ (Elt F) ℕ ℕ UU ℕ cfg c) (t : Fin (cfg.N + 1))
    (O : CellTallies nD τ sig ℕ) (h0 : dat.owed t = O) (hr : dat.recorded t = Set.univ) :
    (owesAny c O : sProp 𝕄) ⊢ (dat.owesAt 0 t : sProp 𝕄) := by
  unfold Dat.owesAt Pipeline.owesWithin Dat.bound owesAny; rw [h0, hr]
  iintro ⟨%W, HO⟩; iexists W; isplitr; · ipureintro; exact fun _ _ => Or.inl trivial
  iexact HO
theorem owes_out {cfg : Pipeline.Cfg sig Λ₀} {c : Dev nD} (dat : Dat τ (Elt F) ℕ ℕ UU ℕ cfg c) (t : Fin (cfg.N + 1))
    (O : CellTallies nD τ sig ℕ) (h0 : dat.owed t = O) :
    (dat.owesAt 0 t : sProp 𝕄) ⊢ (owesAny c O : sProp 𝕄) := by
  unfold Dat.owesAt Pipeline.owesWithin owesAny; rw [h0]
  iintro ⟨%W, -, HO⟩; iexists W; iexact HO

/-! ## The windows -/

/-- The one block of a window on a whole array is the array. -/
theorem read_block {s : Shape} (M : Memref sig .tc .hbm s .f32) (o y : Bool) (st : Memref sig .tc .vmem ⟨s.rank, s.size⟩ .f32)
    (sem : DmaSem sig) (hM : M.IsWhole) (hst : st.IsWhole) (t : Fin Pipeline.Grid.none.N) (c : Dev nD)
    (f : Buf (Elt F) (M.view.loc (c : Thread nD τ))) :
    ((Pipeline.Window.whole M o y st sem hM hst).blk t).view.read (Elt F) f = M.view.read (Elt F) f := by
  funext i
  show M.view.read (Elt F) f _ = M.view.read (Elt F) f i
  congr 1
  funext a
  apply Fin.ext
  show 0 * s.size a + 1 * (i a).val = (i a).val
  omega

theorem fill_block {s : Shape} (M : Memref sig .tc .hbm s .f32) (o y : Bool) (st : Memref sig .tc .vmem ⟨s.rank, s.size⟩ .f32)
    (sem : DmaSem sig) (hM : M.IsWhole) (hst : st.IsWhole) (i : Pipeline.Grid.none.Coords) (d g : s.Idx → Elt F .f32) :
    (Pipeline.Window.whole M o y st sem hM hst).fill i d g = g := by
  funext j
  unfold Pipeline.Window.fill
  rw [dif_pos ((Pipeline.Window.whole M o y st sem hM hst).moved_xinj i j)]

theorem before0 (c : Dev nD) (d : (cfg0.win 0).block.Idx → Elt F (cfg0.win 0).elt) : (dat0 m c).before 0 t0_0 d = V1 m c main_arg0 := by
  unfold Dat.before; rw [if_pos (by decide)]
  exact (fill_block (Memref.whole main_arg0) false false (stage0_0 0) (sem0_0 0) (Memref.isWhole_whole _) (hstage0_0 0) _ d _).trans
    (read_block (Memref.whole main_arg0) false false (stage0_0 0) (sem0_0 0) (Memref.isWhole_whole _) (hstage0_0 0) t0_0 c (V1 (F := F) m c main_arg0))
theorem before1 (c : Dev nD) (d : (cfg0.win 1).block.Idx → Elt F (cfg0.win 1).elt) : (dat0 m c).before 1 t0_0 d = V1 m c main_arg1 := by
  unfold Dat.before; rw [if_pos (by decide)]
  exact (fill_block (Memref.whole main_arg1) false false (stage0_1 0) (sem0_1 0) (Memref.isWhole_whole _) (hstage0_1 0) _ d _).trans
    (read_block (Memref.whole main_arg1) false false (stage0_1 0) (sem0_1 0) (Memref.isWhole_whole _) (hstage0_1 0) t0_0 c (V1 (F := F) m c main_arg1))
theorem before2 (c : Dev nD) (d : (cfg0.win 2).block.Idx → Elt F (cfg0.win 2).elt) : (dat0 m c).before 2 t0_0 d = V1 m c main_arg4 := by
  unfold Dat.before; rw [if_pos (by decide)]
  exact (fill_block (Memref.whole main_arg4) false false (stage0_2 0) (sem0_2 0) (Memref.isWhole_whole _) (hstage0_2 0) _ d _).trans
    (read_block (Memref.whole main_arg4) false false (stage0_2 0) (sem0_2 0) (Memref.isWhole_whole _) (hstage0_2 0) t0_0 c (V1 (F := F) m c main_arg4))
theorem before3 (c : Dev nD) (d : (cfg0.win 3).block.Idx → Elt F (cfg0.win 3).elt) : (dat0 m c).before 3 t0_0 d = V1 m c main_v9 := by
  unfold Dat.before; rw [if_pos (by decide)]
  exact (fill_block (Memref.whole main_v9) false false (stage0_3 0) (sem0_3 0) (Memref.isWhole_whole _) (hstage0_3 0) _ d _).trans
    (read_block (Memref.whole main_v9) false false (stage0_3 0) (sem0_3 0) (Memref.isWhole_whole _) (hstage0_3 0) t0_0 c (V1 (F := F) m c main_v9))
theorem before4 (c : Dev nD) (d : (cfg0.win 4).block.Idx → Elt F (cfg0.win 4).elt) : (dat0 m c).before 4 t0_0 d = V1 m c main_v14 := by
  unfold Dat.before; rw [if_pos (by decide)]
  exact (fill_block (Memref.whole main_v14) false false (stage0_4 0) (sem0_4 0) (Memref.isWhole_whole _) (hstage0_4 0) _ d _).trans
    (read_block (Memref.whole main_v14) false false (stage0_4 0) (sem0_4 0) (Memref.isWhole_whole _) (hstage0_4 0) t0_0 c (V1 (F := F) m c main_v14))

theorem owns_open {s : Shape} (c : Dev nD) (M : Memref sig .tc .vmem s .f32) (h : M.view.set = Finset.univ) (X : s.Idx → Elt F .f32) :
    (owns (c : Thread nD τ) M fullShare X : sProp 𝕄) ⊢ iprop(∃ f, ⌜M.view.read (Elt F) f = X⌝ ∗ memPts c M f) := by
  unfold owns; rw [h]
theorem owns_close {s : Shape} (c : Dev nD) (M : Memref sig .tc .vmem s .f32) (h : M.view.set = Finset.univ)
    (f : Buf (Elt F) (M.view.loc (c : Thread nD τ))) (X : s.Idx → Elt F .f32) (e : M.view.read (Elt F) f = X) :
    (memPts c M f : sProp 𝕄) ⊢ owns (c : Thread nD τ) M fullShare X := by
  unfold owns; rw [h]
  iintro H; iexists f; isplitr; · ipureintro; exact e
  iexact H

/-! ## The body -/

abbrev xM : Memref sig .tc .vmem S1x512x1024 .f32 := Memref.whole cc0_stg0_0
abbrev wqM : Memref sig .tc .vmem S1024x1024 .f32 := Memref.whole cc0_stg1_0
abbrev woM : Memref sig .tc .vmem S1024x1024 .f32 := Memref.whole cc0_stg2_0
abbrev wkM : Memref sig .tc .vmem S1024x256 .f32 := Memref.whole cc0_stg3_0
abbrev wvM : Memref sig .tc .vmem S1024x256 .f32 := Memref.whole cc0_stg4_0

/-- The body as it is called. -/
abbrev bodyP : Pg F :=
  cc0_body xM (Memref.isWhole_whole _) wqM (Memref.isWhole_whole _) woM (Memref.isWhole_whole _) wkM (Memref.isWhole_whole _)
    wvM (Memref.isWhole_whole _) outM (Memref.isWhole_whole _) catM (Memref.isWhole_whole _) sndM (Memref.isWhole_whole _)
    rcvM (Memref.isWhole_whole _) cc0_scratch3 cc0_scratch4 cc0_scratch5

theorem device_wp {defs : Defs nD τ sig (Elt F) Λ₀} {Q : PUnit → sProp (MT nD τ sig ℕ (Elt F) ℕ UU ℕ)} (c : Dev nD) (k : Dev nD → Pg F) :
    WPd defs c (k c) Q ⊢ WPd defs c (.op .deviceId k) Q := by
  unfold WPd
  rw [wp_deviceId]

theorem body_wp {Q : PUnit → sProp (MT nD τ sig ℕ (Elt F) ℕ UU ℕ)} {defs : Defs nD τ sig (Elt F) Λ₀} (c : Dev nD)
    (f0 : Buf (Elt F) (xM.view.loc (c : Thread nD τ))) (f1 : Buf (Elt F) (wqM.view.loc (c : Thread nD τ)))
    (f2 : Buf (Elt F) (woM.view.loc (c : Thread nD τ))) (f3 : Buf (Elt F) (wkM.view.loc (c : Thread nD τ)))
    (f4 : Buf (Elt F) (wvM.view.loc (c : Thread nD τ)))
    (h0 : xM.view.read (Elt F) f0 = V1 m c main_arg0) (h1 : wqM.view.read (Elt F) f1 = V1 m c main_arg1)
    (h2 : woM.view.read (Elt F) f2 = V1 m c main_arg4) (h3 : wkM.view.read (Elt F) f3 = V1 m c main_v9)
    (h4 : wvM.view.read (Elt F) f4 = V1 m c main_v14) :
    iprop(phiIn m c ∗ owesAny c (owedStart c) ∗ memPts c xM f0 ∗ memPts c wqM f1 ∗ memPts c woM f2 ∗ memPts c wkM f3
        ∗ memPts c wvM f4 ∗ (∃ f, outPts c f)
        ∗ (phiOut c ∗ owesAny c 0 ∗ memPts c xM f0 ∗ memPts c wqM f1 ∗ memPts c woM f2 ∗ memPts c wkM f3
            ∗ memPts c wvM f4 ∗ outPts c (total m c) -∗ Q ⟨⟩))
      ⊢ WPd defs c bodyP Q := by
  unfold bodyP
  rw [body_eq]
  unfold phiIn scratch
  iintro ⟨⟨⟨%K, %κ, Hop⟩, ⟨Hcat, ⟨%fs, Hs⟩, ⟨%fr, Hr⟩⟩, Hp⟩, HO, H0, H1, H2, H3, H4, Hout, Hk⟩
  iapply device_wp
  iapply (attn_wp c xM wqM woM wkM wvM f0 f1 f2 f3 f4 _ _ _ _ _ h0 h1 h2 h3 h4)
  isplitl [H0]; · iexact H0
  isplitl [H1]; · iexact H1
  isplitl [H2]; · iexact H2
  isplitl [H3]; · iexact H3
  isplitl [H4]; · iexact H4
  isplitl [Hout]; · iexact Hout
  isplitl [Hcat]; · iexact Hcat
  iintro ⟨H0, H1, H2, H3, H4, Hout, Hcat⟩
  iapply (tail_wp (part m) K κ c fs fr)
  isplitl [Hop]; · iexact Hop
  isplitl [Hs]; · iexact Hs
  isplitl [Hr]; · iexact Hr
  isplitl [Hout]; · unfold part; iexact Hout
  isplitl [HO]; · iexact HO
  unfold ringEnd slotEnd phiOut ownZero scratch
  iintro ⟨Hb, Hcr, ⟨Hs0, Hr0, Hsp0, Hrp0⟩, ⟨Hs1, Hr1, Hsp1, Hrp1⟩, Hout, HO⟩
  iapply Hk
  isplitr [HO H0 H1 H2 H3 H4 Hout]
  · isplitl [Hb Hcr Hs0 Hr0 Hs1 Hr1]
    · isplitl [Hb]; · iexact Hb
      isplitl [Hcr]; · iexact Hcr
      isplitl [Hs0]; · iexact Hs0
      isplitl [Hs1]; · iexact Hs1
      isplitl [Hr0]; · iexact Hr0
      iexact Hr1
    isplitr [Hp]
    · isplitl [Hcat]; · iexact Hcat
      isplitl [Hsp0 Hsp1]
      · iapply (snd_join c fs)
        isplitl [Hsp0]; · iexact Hsp0
        iexact Hsp1
      iapply (rcv_join c fr)
      isplitl [Hrp0]; · iexact Hrp0
      iexact Hrp1
    iexact Hp
  isplitl [HO]; · iexact HO
  isplitl [H0]; · iexact H0
  isplitl [H1]; · iexact H1
  isplitl [H2]; · iexact H2
  isplitl [H3]; · iexact H3
  isplitl [H4]; · iexact H4
  iexact Hout

abbrev stg (c : Dev nD) {s : Shape} (M : Memref sig .tc .vmem s .f32) (X : s.Idx → Elt F .f32) : sProp 𝕄 :=
  owns (c : Thread nD τ) M fullShare X

theorem body_staged {Q : PUnit → sProp (MT nD τ sig ℕ (Elt F) ℕ UU ℕ)} {defs : Defs nD τ sig (Elt F) Λ₀} (c : Dev nD) (X : Out F) :
    iprop(phiIn m c ∗ (dat0 m c).owesAt 0 t0_0.castSucc ∗ stg c xM (V1 m c main_arg0) ∗ stg c wqM (V1 m c main_arg1) ∗ stg c woM (V1 m c main_arg4)
        ∗ stg c wkM (V1 m c main_v9) ∗ stg c wvM (V1 m c main_v14) ∗ stg c outM X
        ∗ (phiOut c ∗ (dat0 m c).owesAt 0 t0_0.succ ∗ stg c xM (V1 m c main_arg0) ∗ stg c wqM (V1 m c main_arg1) ∗ stg c woM (V1 m c main_arg4)
            ∗ stg c wkM (V1 m c main_v9) ∗ stg c wvM (V1 m c main_v14) ∗ stg c outM (total m c) -∗ Q ⟨⟩))
      ⊢ WPd defs c bodyP Q := by
  iintro ⟨Hphi, HO, H0, H1, H2, H3, H4, H5, Hk⟩
  ihave HO := (owes_out (dat0 m c) _ (owedStart c) (owed_first m c)) $$ HO
  ihave H0 := (owns_open c xM (View.set_whole _) _) $$ H0
  ihave H1 := (owns_open c wqM (View.set_whole _) _) $$ H1
  ihave H2 := (owns_open c woM (View.set_whole _) _) $$ H2
  ihave H3 := (owns_open c wkM (View.set_whole _) _) $$ H3
  ihave H4 := (owns_open c wvM (View.set_whole _) _) $$ H4
  ihave H5 := (owns_open c outM (View.set_whole _) _) $$ H5
  icases H0 with ⟨%f0, %h0, H0⟩
  icases H1 with ⟨%f1, %h1, H1⟩
  icases H2 with ⟨%f2, %h2, H2⟩
  icases H3 with ⟨%f3, %h3, H3⟩
  icases H4 with ⟨%f4, %h4, H4⟩
  icases H5 with ⟨%f5, -, H5⟩
  iapply (body_wp m c f0 f1 f2 f3 f4 h0 h1 h2 h3 h4)
  isplitl [Hphi]; · iexact Hphi
  isplitl [HO]; · iexact HO
  isplitl [H0]; · iexact H0
  isplitl [H1]; · iexact H1
  isplitl [H2]; · iexact H2
  isplitl [H3]; · iexact H3
  isplitl [H4]; · iexact H4
  isplitl [H5]; · iexists f5; iexact H5
  iintro ⟨Hphi, HO, H0, H1, H2, H3, H4, H5⟩
  iapply Hk
  isplitl [Hphi]; · iexact Hphi
  isplitl [HO]; · iapply (owes_in (dat0 m c) t0_0.succ 0 (owed_last m c) rfl); iexact HO
  isplitl [H0]; · iapply (owns_close c xM (View.set_whole _) f0 _ h0); iexact H0
  isplitl [H1]; · iapply (owns_close c wqM (View.set_whole _) f1 _ h1); iexact H1
  isplitl [H2]; · iapply (owns_close c woM (View.set_whole _) f2 _ h2); iexact H2
  isplitl [H3]; · iapply (owns_close c wkM (View.set_whole _) f3 _ h3); iexact H3
  isplitl [H4]; · iapply (owns_close c wvM (View.set_whole _) f4 _ h4); iexact H4
  iapply (owns_close c outM (View.set_whole _) (total m c) _ (out_read _)); iexact H5

theorem after0 (c : Dev nD) : (dat0 m c).after 0 t0_0 = V1 m c main_arg0 := by dsimp only [dat0]
theorem after1 (c : Dev nD) : (dat0 m c).after 1 t0_0 = V1 m c main_arg1 := by dsimp only [dat0]
theorem after2 (c : Dev nD) : (dat0 m c).after 2 t0_0 = V1 m c main_arg4 := by dsimp only [dat0]
theorem after3 (c : Dev nD) : (dat0 m c).after 3 t0_0 = V1 m c main_v9 := by dsimp only [dat0]
theorem after4 (c : Dev nD) : (dat0 m c).after 4 t0_0 = V1 m c main_v14 := by dsimp only [dat0]
theorem after5 (c : Dev nD) : (dat0 m c).after 5 t0_0 = total m c := by dsimp only [dat0]

theorem idle_none (w : Fin 6) : cfg0.idle w (cfg0.grid.coords t0_0) = false := by revert w; decide

/-- The row of the program's table the pipeline calls. -/
theorem body_row : defs₀ (F := F) .tc cfg0.body (cfg0.bodyArgs t0_0 (cfg0.slots t0_0)) = bodyP := rfl

theorem body_obligation (c : Dev nD) : BodyObligation (dat0 (F := F) m c) (defs₀ (F := F)) 𝒱₀ 0 Set.univ := fun t => by
  obtain rfl := fin_N0 t
  rw [bigSep_W0, bigSep_W0]
  rw [phi_first, phi_last]
  iintro ⟨Hphi, HO, ⟨%d0, H0⟩, ⟨%d1, H1⟩, ⟨%d2, H2⟩, ⟨%d3, H3⟩, ⟨%d4, H4⟩, ⟨%d5, H5⟩⟩
  rw [before0, before1, before2, before3, before4]
  rw [body_row]
  iapply (body_staged m c ((dat0 m c).before 5 t0_0 d5))
  isplitl [Hphi]; · iexact Hphi
  isplitl [HO]; · iexact HO
  isplitl [H0]; · iexact H0
  isplitl [H1]; · iexact H1
  isplitl [H2]; · iexact H2
  isplitl [H3]; · iexact H3
  isplitl [H4]; · iexact H4
  isplitl [H5]; · iexact H5
  simp only [idle_none]
  rw [after0, after1, after2, after3, after4, after5]
  iintro ⟨Hphi, HO, H0, H1, H2, H3, H4, H5⟩
  isplitl [Hphi]; · iexact Hphi
  isplitl [HO]; · iexact HO
  isplitl [H0]; · iexact H0
  isplitl [H1]; · iexact H1
  isplitl [H2]; · iexact H2
  isplitl [H3]; · iexact H3
  isplitl [H4]; · iexact H4
  iexact H5

end Cert.Proof
-- ==== Proof.Region.lean ====
/- The kernel region of the host program: what enters it, the opening of the kernel's own cells, and what it leaves. -/
module

public import proofs.«01_k».proof.Proof.Body
public import Idealize.ShloMosaic.Lib.Pipeline.RegionTalk
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (BodyObligation Dat)

variable {F : FTy → Type} [FloatOps F]

local notation "𝕄" => MT nD τ sig ℕ (Elt F) ℕ UU ℕ

variable (m : (ℓ : Loc nD τ sig) → Buf (Elt F) ℓ)

/-! ## What is dealt at launch, and what the region's entry makes of it -/

/-- A device's share of the launch: its barrier's position, the rights to open its own cells, its slots' readers,
    and every token and credit it will use. -/
def dealt (P : Dev nD → Out F) (K : GSem nD τ sig → ℕ) (κ : SlotKey → ℕ) (c : Dev nD) : sProp 𝕄 :=
  iprop(invs P K κ ∗ barOpen c ∗ barTok c
    ∗ (openTok ER (credCell c) ∗ openTok ER (sendCell c 0) ∗ openTok ER (sendCell c 1) ∗ openTok ER (recvCell c 0) ∗ openTok ER (recvCell c 1))
    ∗ (readerAt ES ((c, 0) : SlotKey) 0 ∗ readerAt ES ((c, 1) : SlotKey) 0) ∗ toks c 0)

theorem ownSems_eq (c : Dev nD) : (Pipeline.ownSems0 osem c : sProp 𝕄) = ownZero c :=
  bigSep_univ_eq_bigSepL [(0 : Fin 5), 1, 2, 3, 4] (by decide) (by decide) (fun k : Fin 5 => (semVal ((c : Thread nD τ), osem k) 0 : sProp 𝕄))

theorem open_own (P : Dev nD → Out F) (K : GSem nD τ sig → ℕ) (κ : SlotKey → ℕ) {g : GSem nD τ sig} (h : g ∈ ownCells) :
    iprop(invs P K κ ∗ openTok ER g ∗ semVal g 0) ⊢ (|={Set.univ}=> (atPos ER g 0 ∅ 0 ∗ reached ER g 0) : sProp 𝕄) := by
  iintro ⟨#Hi, Ho, Hs⟩
  ihave #Hc := (inv_own P K κ h) $$ Hi
  imod (Rounds.cell_open ER (rd P) (g := g) (Set.mem_univ (K g))) $$ [Ho Hs] with ⟨Hat, Hr⟩
  · isplitr; · iexact Hc
    isplitl [Ho] <;> iassumption
  imodintro
  isplitl [Hat] <;> iassumption

theorem open_all (P : Dev nD → Out F) (K : GSem nD τ sig → ℕ) (κ : SlotKey → ℕ) (c : Dev nD) :
    iprop(dealt P K κ c ∗ ownZero c ∗ levAts L lv) ⊢ (|={Set.univ}=> opened P K κ c : sProp 𝕄) := by
  unfold dealt ownZero
  iintro ⟨⟨#Hi, Hbo, Hbt, ⟨O0, O1, O2, O3, O4⟩, ⟨R0, R1⟩, Ht⟩, ⟨S0, S1, S2, S3, S4⟩, Hlev⟩
  imod (open_own P K κ (cred_mem c)) $$ [O0 S0] with ⟨A0, B0⟩
  · isplitr; · iexact Hi
    isplitl [O0] <;> iassumption
  imod (open_own P K κ (send_mem c 0)) $$ [O1 S1] with ⟨A1, B1⟩
  · isplitr; · iexact Hi
    isplitl [O1] <;> iassumption
  imod (open_own P K κ (send_mem c 1)) $$ [O2 S2] with ⟨A2, B2⟩
  · isplitr; · iexact Hi
    isplitl [O2] <;> iassumption
  imod (open_own P K κ (recv_mem c 0)) $$ [O3 S3] with ⟨A3, B3⟩
  · isplitr; · iexact Hi
    isplitl [O3] <;> iassumption
  imod (open_own P K κ (recv_mem c 1)) $$ [O4 S4] with ⟨A4, B4⟩
  · isplitr; · iexact Hi
    isplitl [O4] <;> iassumption
  imodintro
  unfold opened slotOpen
  isplitr; · iexact Hi
  isplitl [Hlev]; · iexact Hlev
  isplitl [Hbo]; · iexact Hbo
  isplitl [Hbt]; · iexact Hbt
  isplitl [A1 B1 A3 B3 R0]
  · isplitl [A1]; · iexact A1
    isplitl [B1]; · iexact B1
    isplitl [A3]; · iexact A3
    isplitl [B3]; · iexact B3
    iexact R0
  isplitl [A2 B2 A4 B4 R1]
  · isplitl [A2]; · iexact A2
    isplitl [B2]; · iexact B2
    isplitl [A4]; · iexact A4
    isplitl [B4]; · iexact B4
    iexact R1
  isplitl [A0 B0]
  · isplitl [A0] <;> iassumption
  iexact Ht

def Tk (c : Dev nD) : sProp 𝕄 := iprop(∃ K κ, dealt (part m) K κ c)
def Xk (c : Dev nD) : sProp 𝕄 := iprop(∃ K κ, opened (part m) K κ c)
def Yk (c : Dev nD) : sProp 𝕄 := semVal (barCell c) 0

theorem region_open (c : Dev nD) : iprop(Tk m c ∗ Pipeline.ownSems0 osem c ∗ levAts L lv) ⊢ (|={Set.univ}=> Xk m c : sProp 𝕄) := by
  rw [ownSems_eq]
  unfold Tk Xk
  iintro ⟨⟨%K, %κ, Hd⟩, Hs, Hl⟩
  imod (open_all (part m) K κ c) $$ [Hd Hs Hl] with Ho
  · isplitl [Hd]; · iexact Hd
    isplitl [Hs] <;> iassumption
  imodintro
  iexists K, κ; iexact Ho

/-! ## The scratch buffers -/

theorem scratch_eq (c : Dev nD) :
    (Pipeline.scopedRest (Ix := ℕ) (Name := ℕ) (U := UU) (Lvl := ℕ) (Val := Elt F)
      (Pipeline.pin (pcfgs (F := F)) adm 0).spec c : sProp 𝕄) = scratch c := scopedRest0_eq c

abbrev pdats : (p : Fin 1) → (c : Dev nD) → Dat τ (Elt F) ℕ ℕ UU ℕ (Pipeline.pin (pcfgs (F := F)) adm p) c
  | 0 => dat0 m

theorem phi_start (c : Dev nD) : (pdats m 0 c).Φ 0 = phiIn m c := phi_first m c
theorem phi_end (c : Dev nD) : (pdats m 0 c).Φ (Fin.last (Pipeline.pin (pcfgs (F := F)) adm 0).N) = phiOut c := phi_last m c
theorem owed_start (c : Dev nD) : (pdats m 0 c).owed 0 = owedStart c := owed_first m c
theorem owed_stop (c : Dev nD) : (pdats m 0 c).owed (Fin.last _) = 0 := owed_last m c

theorem region_in (c : Dev nD) :
    iprop(Pipeline.scopedRest (Pipeline.pin (pcfgs (F := F)) adm 0).spec c ∗ (∃ r, prngReg c r)
        ∗ StableHlo.held (c.tc : Thread nD τ) ∅ (V1 m c) ∗ Xk m c) ⊢ (pdats m 0 c).Φ 0 := by
  rw [phi_start, scratch_eq]
  unfold phiIn Xk
  iintro ⟨Hs, Hp, -, HX⟩
  isplitl [HX]; · iexact HX
  isplitl [Hs] <;> iassumption

/-- Every buffer after the region: the result holds the sum over the devices, all else is as it was. -/
def W2 (c : Dev nD) : Valuation τ sig (Elt F) := Function.update (V1 m c) main_v15 (total m c)

theorem upd_self (V : Valuation τ sig (Elt F)) (b : DevRef τ sig) (x : b.ty.Idx → Elt F b.ty.elt) : Function.update V b x b = x :=
  Function.update_self _ _ _
theorem W2_out (c : Dev nD) : W2 m c main_v15 = total m c := by
  unfold W2
  generalize total m c = T
  generalize V1 m c = V
  exact upd_self V (Proc.devRef .tc main_v15) T
theorem W2_of (c : Dev nD) (r : Ref sig .tc) (h : r ≠ main_v15) : W2 m c r = V1 m c r := by
  have h' : (Proc.devRef .tc r : DevRef τ sig) ≠ Proc.devRef .tc main_v15 := StableHlo.devRef_ne_of_ne h
  unfold W2
  generalize total m c = T
  generalize V1 m c = V
  exact Function.update_of_ne h' _ _

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
        ∗ StableHlo.held (c.tc : Thread nD τ) ∅ (W2 m c) ∗ Pipeline.ownSems0 osem c ∗ Yk c) := by
  rw [phi_end, ownSems_eq, scratch_eq]
  unfold phiOut Yk StableHlo.held
  rw [BI.bigSep_empty]
  iintro ⟨⟨Hb, Hz⟩, Hs, Hp⟩
  isplitl [Hs]; · iexact Hs
  isplitl [Hp]; · iexact Hp
  isplitr; · iempintro
  isplitl [Hz] <;> iassumption

/-! ## The levels, and the arrays before and after -/

theorem owedStart_pos {c : Dev nD} {g : GSem nD τ sig} {i : ℕ} (h : 0 < owedStart c g i) : i ∈ L g ∧ 0 < lv g i := by
  unfold owedStart at h
  rcases Nat.eq_zero_or_pos (owed 0 0 c g i) with h0 | h0
  · rcases Nat.eq_zero_or_pos ((tallyAt (barCell (nxt c)) 0 1 : CellTallies nD τ sig ℕ) g i) with h1 | h1
    · have h2 : 0 < (tallyAt (barCell (prv c)) 0 1 : CellTallies nD τ sig ℕ) g i := by
        rw [show (_ + _ + _ : CellTallies nD τ sig ℕ) g i = _ + _ + _ from rfl, h0, h1, Nat.zero_add] at h
        exact h
      obtain ⟨rfl, rfl⟩ := tallyAt_pos h2
      rw [L_tc, lv_bar, Finset.mem_range]; omega
    · obtain ⟨rfl, rfl⟩ := tallyAt_pos h1
      rw [L_tc, lv_bar, Finset.mem_range]; omega
  · obtain ⟨h1, h2⟩ := owed_pos h0
    exact ⟨h1, by omega⟩

theorem stage_lv (c : Dev nD) : ∀ (w : Fin 6) (s : Fin (spec0 w).nbuf), lv ((c : Thread nD τ), .dma ((spec0 w).sem s)) 0 ≤ 0 := by
  intro w s
  have h : ∀ (w : Fin 6) (s : Fin (spec0 w).nbuf), useOf (.dma ((spec0 w).sem s)) = .other := by decide
  unfold lv
  rw [h w s]

theorem level_cut : Pipeline.LevelCutOwed (pcfgs (F := F)) adm (pdats m) 0 L lv 0 (fun _ => 0) where
  hι c w s := by rw [L_tc]; decide
  hιb c w s := stage_lv c w s
  hD c t g i h := by
    have e : (pdats (F := F) m 0 c).owed t = if t.val = 0 then owedStart c else 0 := rfl
    rw [e] at h
    split at h
    · exact owedStart_pos h
    · exact absurd h (Nat.lt_irrefl 0)

theorem arr_first (c : Dev nD) : ∀ w : Fin 6, (dat0 m c).arrAt w 0 = V1 m c (Proc.devRef .tc (Pipeline.arrRef spec0 w)) := fun
  | 0 => rfl | 1 => rfl | 2 => rfl | 3 => rfl | 4 => rfl | 5 => rfl

theorem whole_out : (cfg0.win 5).WholeAt t0_0 := by decide +kernel

theorem arr_out (c : Dev nD) : (dat0 m c).arrAt 5 cfg0.N = total m c :=
  (dat0 m c).arrAt_eq_of_after_last 5 t0_0 whole_out (total m c) (fun j => by
    rw [after5]
    generalize total m c = T
    rfl)

theorem arr_last (c : Dev nD) (w : Fin 6) : (dat0 m c).arrAt w cfg0.N = W2 m c (Proc.devRef .tc (Pipeline.arrRef spec0 w)) := by
  match w with
  | 0 => exact ((dat0 m c).arrAt_in 0 rfl _).trans (W2_of m c main_arg0 (by decide)).symm
  | 1 => exact ((dat0 m c).arrAt_in 1 rfl _).trans (W2_of m c main_arg1 (by decide)).symm
  | 2 => exact ((dat0 m c).arrAt_in 2 rfl _).trans (W2_of m c main_arg4 (by decide)).symm
  | 3 => exact ((dat0 m c).arrAt_in 3 rfl _).trans (W2_of m c main_v9 (by decide)).symm
  | 4 => exact ((dat0 m c).arrAt_in 4 rfl _).trans (W2_of m c main_v14 (by decide)).symm
  | 5 => exact (arr_out m c).trans (W2_out m c).symm

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem arrs_sub : Pipeline.arrRefs (τ := τ) spec0 ⊆ Pipeline.ucRefs τ sig := by decide +kernel

/-- The buffers that are no operand's array. -/
abbrev others : Finset (DevRef τ sig) := Pipeline.ucRefs τ sig \ Pipeline.arrRefs (τ := τ) spec0

theorem rest_keeps (c : Dev nD) (b : DevRef τ sig) (hb : b ∈ others \ ∅) : W2 m c b = V1 m c b := by
  refine Function.update_of_ne (fun h => ?_) _ _
  rw [Finset.sdiff_empty, Finset.mem_sdiff] at hb
  exact hb.2 (h ▸ (by decide +kernel : (Proc.devRef .tc main_v15 : DevRef τ sig) ∈ Pipeline.arrRefs (τ := τ) spec0))

set_option backward.isDefEq.respectTransparency.types false in
def reg : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    ∅ others (Finset.empty_subset _) kit rfl (fun c => (body_obligation m c).loose)
    (fun _ => 0) owedStart (fun c => (owed_start m c).trans (zero_add _).symm) (owed_stop m) (fun _ => rfl)
    (fun c => (dat0 m c).share_full fun _ => rfl)
    (V1 m) (W2 m) (rest_keeps m) (Tk m) Yk (Xk m) Yk (region_open m) (region_in m) (region_out m)
    (fun c => by iintro H; imodintro; iexact H) (fun _ => 0) (level_cut m) (fun _ => iprop(emp))
    (arr_first m) (arr_last m)

/-- What rides beside the buffers up to the region. -/
def rides (c : Dev nD) : sProp 𝕄 := iprop((∃ r, prngReg c r) ∗ Tk m c ∗ owesAny c (owedStart c))

theorem reg_pre (c : Dev nD) : iprop(StableHlo.held (c : Thread nD τ) (Pipeline.ucRefs τ sig) (V1 m c) ∗ rides m c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + owedStart c) Wd)
  rw [zero_add, StableHlo.held_sub_split (c : Thread nD τ) arrs_sub (V1 m c)]
  unfold rides owesAny
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

theorem reg_post (c : Dev nD) : (reg m).post c
    ⊢ iprop((StableHlo.held (c : Thread nD τ) (Pipeline.ucRefs τ sig) (W2 m c) ∗ semVal (barCell c) 0)
        ∗ ∃ W, owes (c : Thread nD τ) (0 : CellTallies nD τ sig ℕ) W) := by
  show iprop(StableHlo.held (c.tc : Thread nD τ) (Pipeline.arrRefs (τ := τ) spec0) (W2 m c) ∗ (∃ r, prngReg c r)
    ∗ (StableHlo.held (c.tc : Thread nD τ) others (W2 m c) ∗ emp) ∗ Yk c ∗ ∃ Wd, owes (c : Thread nD τ) (0 : CellTallies nD τ sig ℕ) Wd) ⊢ _
  rw [StableHlo.held_sub_split (c : Thread nD τ) arrs_sub (W2 m c)]
  unfold Yk
  iintro ⟨Ha, -, ⟨Hr, -⟩, Hb, HO⟩
  isplitr [HO]
  · isplitl [Ha Hr]
    · isplitl [Ha] <;> iassumption
    iexact Hb
  iexact HO

end Cert.Proof
-- ==== Proof.Deal.lean ====
/- The launch of the protocol: its cells, tokens and credits, and how they are dealt around the ring. -/
module

public import proofs.«01_k».proof.Proof.Region

@[expose] public section

set_option maxRecDepth 16384

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (BodyObligation Dat)

variable {F : FTy → Type} [FloatOps F]

local notation "𝕄" => MT nD τ sig ℕ (Elt F) ℕ UU ℕ

/-! ## Families -/

theorem over_pairs {A B : Type} [DecidableEq A] [DecidableEq B] (s : Finset A) (t : Finset B) (Φ : A × B → sProp 𝕄) :
    bigSep (s ×ˢ t) Φ = bigSep s fun a => bigSep t fun b => Φ (a, b) := by
  induction s using Finset.induction_on with
  | empty => rw [Finset.empty_product, BI.bigSep_empty, BI.bigSep_empty]
  | insert a s ha ih =>
    have he : insert a s ×ˢ t = t.image (Prod.mk a) ∪ s ×ˢ t := by
      ext ⟨x, y⟩
      simp only [Finset.mem_product, Finset.mem_insert, Finset.mem_union, Finset.mem_image, Prod.mk.injEq]
      constructor
      · rintro ⟨rfl | hx, hy⟩
        · exact .inl ⟨y, hy, rfl, rfl⟩
        · exact .inr ⟨hx, hy⟩
      · rintro (⟨b, hb, rfl, rfl⟩ | ⟨hx, hy⟩)
        · exact ⟨.inl rfl, hb⟩
        · exact ⟨.inr hx, hy⟩
    have hd : Disjoint (t.image (Prod.mk a)) (s ×ˢ t) := by
      rw [Finset.disjoint_left]
      rintro _ h h'
      obtain ⟨b, -, rfl⟩ := Finset.mem_image.mp h
      exact ha (Finset.mem_product.mp h').1
    rw [he, BI.bigSep_union hd, ih, bigSep_image_of_injOn (fun _ _ _ _ h => (Prod.ext_iff.mp h).2), BI.bigSep_insert ha]

/-- The steps are the pairs of a slot and a turn. -/
abbrev stepOf (x : Fin 2 × ℕ) : ℕ := 2 * x.2 + x.1.val
theorem steps_eq : Finset.Ico 0 62 = (Finset.univ ×ˢ Finset.range 31).image stepOf := by decide +kernel
theorem step_inj (S : Finset (Fin 2 × ℕ)) : Set.InjOn stepOf (S : Set (Fin 2 × ℕ)) := fun x _ y _ h => by
  have h1 := x.1.isLt; have h2 := y.1.isLt
  have h3 : 2 * x.2 + x.1.val = 2 * y.2 + y.1.val := h
  exact Prod.ext (Fin.ext (by omega)) (by omega)
theorem bf_step (x : Fin 2 × ℕ) : bf (stepOf x) = x.1 :=
  Fin.ext (by have h1 := x.1.isLt; show (2 * x.2 + x.1.val) % 2 = x.1.val; omega)
theorem half_step (x : Fin 2 × ℕ) : stepOf x / 2 = x.2 := by
  have h1 := x.1.isLt; show (2 * x.2 + x.1.val) / 2 = x.2; omega

/-! ## The tokens -/

/-- A duty of a device's own cells. -/
abbrev Key : Type := SemLoc sig × ℕ × ℕ

def barKey (d : ℕ) : Key := (.reg barS, 0, d)
def sendKey (j : ℕ) : Key := (.dma (sendS (bf j)), j / 2, 0)
def recvKey (j : ℕ) : Key := (.dma (recvS (bf j)), j / 2, 0)
def credKey (j : ℕ) : Key := (.reg credS, 0, j)

theorem step_ext {i j : ℕ} (h : bf i = bf j) (h' : i / 2 = j / 2) : i = j := by
  have h1 : i % 2 = j % 2 := congrArg Fin.val h
  omega
theorem barKey_inj : Function.Injective barKey := fun i j h => (congrArg (fun k : Key => k.2.2) h)
theorem credKey_inj : Function.Injective credKey := fun i j h => (congrArg (fun k : Key => k.2.2) h)
theorem sendKey_inj : Function.Injective sendKey := fun i j h =>
  step_ext (Use.send.inj ((use_send _).symm.trans ((congrArg (fun k : Key => useOf k.1) h).trans (use_send _)))) (congrArg (fun k : Key => k.2.1) h)
theorem recvKey_inj : Function.Injective recvKey := fun i j h =>
  step_ext (Use.recv.inj ((use_recv _).symm.trans ((congrArg (fun k : Key => useOf k.1) h).trans (use_recv _)))) (congrArg (fun k : Key => k.2.1) h)

def barKeys : Finset Key := (Finset.range 2).image barKey
def sendKeys : Finset Key := (Finset.Ico 0 62).image sendKey
def recvKeys : Finset Key := (Finset.Ico 0 62).image recvKey
def credKeys : Finset Key := (Finset.Ico 0 60).image credKey
def keys : Finset Key := barKeys ∪ (sendKeys ∪ (recvKeys ∪ credKeys))

theorem keys_disj {f g : ℕ → Key} {s t : Finset ℕ} (h : ∀ i j, useOf (f i).1 ≠ useOf (g j).1) : Disjoint (s.image f) (t.image g) := by
  rw [Finset.disjoint_left]
  rintro _ hf hg
  obtain ⟨i, -, rfl⟩ := Finset.mem_image.mp hf
  obtain ⟨j, -, e⟩ := Finset.mem_image.mp hg
  exact h i j (congrArg (fun k : Key => useOf k.1) e.symm)

theorem useK_bar (i : ℕ) : useOf (barKey i).1 = .bar := use_bar
theorem useK_send (i : ℕ) : useOf (sendKey i).1 = .send (bf i) := use_send _
theorem useK_recv (i : ℕ) : useOf (recvKey i).1 = .recv (bf i) := use_recv _
theorem useK_cred (i : ℕ) : useOf (credKey i).1 = .cred := use_cred

theorem keys_split (Φ : Key → sProp 𝕄) : bigSep keys Φ
    = iprop((Φ (barKey 0) ∗ Φ (barKey 1)) ∗ (bigSep (Finset.Ico 0 62) fun j => Φ (sendKey j)) ∗ (bigSep (Finset.Ico 0 62) fun j => Φ (recvKey j))
        ∗ bigSep (Finset.Ico 0 60) fun j => Φ (credKey j)) := by
  unfold keys
  rw [BI.bigSep_union, BI.bigSep_union, BI.bigSep_union]
  · unfold barKeys sendKeys recvKeys credKeys
    rw [bigSep_image_of_injOn barKey_inj.injOn, bigSep_image_of_injOn sendKey_inj.injOn, bigSep_image_of_injOn recvKey_inj.injOn,
      bigSep_image_of_injOn credKey_inj.injOn, bigSep_eq_bigSepL_of_eq [0, 1] (by decide) (by decide)]
    rfl
  · exact keys_disj fun i j => by rw [useK_recv, useK_cred]; exact Use.noConfusion
  · unfold sendKeys recvKeys credKeys
    rw [Finset.disjoint_union_right]
    exact ⟨keys_disj fun i j => by rw [useK_send, useK_recv]; exact Use.noConfusion,
      keys_disj fun i j => by rw [useK_send, useK_cred]; exact Use.noConfusion⟩
  · unfold barKeys sendKeys recvKeys credKeys
    rw [Finset.disjoint_union_right, Finset.disjoint_union_right]
    exact ⟨keys_disj fun i j => by rw [useK_bar, useK_send]; exact Use.noConfusion,
      keys_disj fun i j => by rw [useK_bar, useK_recv]; exact Use.noConfusion,
      keys_disj fun i j => by rw [useK_bar, useK_cred]; exact Use.noConfusion⟩

/-- A device's key as a duty of the machine. -/
abbrev dutyAt (x : Dev nD × Key) : GSem nD τ sig × ℕ × ℕ := (((x.1 : Thread nD τ), x.2.1), x.2.2)
theorem dutyAt_inj : Function.Injective dutyAt := fun x y h =>
  Prod.ext (congrArg (fun t : GSem nD τ sig × ℕ × ℕ => t.1.1.1) h)
    (Prod.ext (congrArg (fun t : GSem nD τ sig × ℕ × ℕ => t.1.2) h) (congrArg (fun t : GSem nD τ sig × ℕ × ℕ => t.2) h))

def dutyToks : Finset (GSem nD τ sig × ℕ × ℕ) := (Finset.univ ×ˢ keys).image dutyAt

/-- The tokens by the device whose cells they are of. -/
def tokBar (c : Dev nD) (d : ℕ) : sProp 𝕄 := dutyTok ER (barCell c) 0 d
def tokSend (c : Dev nD) : sProp 𝕄 := bigSep (Finset.Ico 0 62) fun j => dutyTok ER (sendCell c (bf j)) (j / 2) 0
def tokRecv (c : Dev nD) : sProp 𝕄 := bigSep (Finset.Ico 0 62) fun j => dutyTok ER (recvCell c (bf j)) (j / 2) 0
def tokCred (c : Dev nD) : sProp 𝕄 := bigSep (Finset.Ico 0 60) fun j => dutyTok ER (credCell c) 0 j
def tokWrite (c : Dev nD) : sProp 𝕄 := bigSep (Finset.Ico 0 62) fun j => writeTok ES ((c, bf j) : SlotKey) (j / 2 + 1)

theorem toks_split : bigSep dutyToks (fun x => (dutyTok ER x.1 x.2.1 x.2.2 : sProp 𝕄))
    = bigSep Finset.univ fun c : Dev nD => iprop((tokBar c 0 ∗ tokBar c 1) ∗ tokSend c ∗ tokRecv c ∗ tokCred c) := by
  unfold dutyToks
  rw [bigSep_image_of_injOn dutyAt_inj.injOn, over_pairs]
  exact BI.bigSep_congr fun c _ => keys_split _

theorem writes_split : bigSep (Finset.univ ×ˢ Finset.range 31) (fun x : SlotKey × ℕ => (writeTok ES x.1 (x.2 + 1) : sProp 𝕄))
    = bigSep Finset.univ fun c : Dev nD => tokWrite c := by
  rw [over_pairs, BI.bigSep_univ_prod]
  refine BI.bigSep_congr fun c _ => ?_
  unfold tokWrite
  rw [steps_eq, bigSep_image_of_injOn (step_inj _), over_pairs]
  refine BI.bigSep_congr fun b _ => BI.bigSep_congr fun r _ => ?_
  rw [bf_step, half_step]

/-- A family over the devices, each device handed its neighbour's. -/
theorem from_next (Φ : Dev nD → sProp 𝕄) : bigSep Finset.univ Φ ⊢ bigSep Finset.univ fun c => Φ (nxt c) :=
  Entails.of_eq (BI.bigSep_univ_equiv ring Φ)
theorem from_prev (Φ : Dev nD → sProp 𝕄) : bigSep Finset.univ Φ ⊢ bigSep Finset.univ fun c => Φ (prv c) :=
  Entails.of_eq (BI.bigSep_univ_equiv ring.symm Φ)

/-! ## The credit -/

def crBar (c : Dev nD) : sProp 𝕄 := cred (tallyAt (barCell c) 0 2)
def crRecv (c : Dev nD) : sProp 𝕄 := bigSep (Finset.Ico 0 62) fun j => cred (tallyAt (recvCell c (bf j)) j N)
def crCred (c : Dev nD) : sProp 𝕄 := bigSep (Finset.Ico 0 60) fun j => cred (tallyAt (credCell c) j 1)

theorem two_units (g : GSem nD τ sig) : iprop(cred (tallyAt g 0 1) ∗ cred (tallyAt g 0 1)) ⊢ (cred (tallyAt g 0 2) : sProp 𝕄) :=
  (cred_add _ _).2.trans (Entails.of_eq (congrArg cred (tallyAt_add g 0 1 1)))

theorem credits (c : Dev nD) : (Pipeline.launchCred owedStart c : sProp 𝕄) ⊢ iprop(crBar c ∗ crRecv c ∗ crCred c) := by
  rw [show (owedStart : Dev nD → CellTallies nD τ sig ℕ)
      = fun d => (((∑ j ∈ Finset.Ico 0 62, tallyAt (recvCell (nxt d) (bf j)) j N) + ∑ j ∈ Finset.Ico 0 60, tallyAt (credCell (prv d)) j 1)
          + tallyAt (barCell (nxt d)) 0 1) + tallyAt (barCell (prv d)) 0 1 from rfl,
    Pipeline.launchCred_add, Pipeline.launchCred_add, Pipeline.launchCred_add, Pipeline.launchCred_sum, Pipeline.launchCred_sum]
  unfold crBar crRecv crCred
  iintro ⟨⟨⟨Hr, Hc⟩, Hb⟩, Hb'⟩
  isplitl [Hb Hb']
  · iapply (two_units (F := F) (barCell c))
    isplitl [Hb]
    · iapply (Pipeline.launchCred_tallyAt (.reg barS) nxt prv nxt_prv prv_nxt 0 1 c); iexact Hb
    · iapply (Pipeline.launchCred_tallyAt (.reg barS) prv nxt prv_nxt nxt_prv 0 1 c); iexact Hb'
  have hr : (bigSep (Finset.Ico 0 62) fun j => Pipeline.launchCred (fun d => tallyAt (recvCell (nxt d) (bf j)) j N) c)
      ⊢ (bigSep (Finset.Ico 0 62) fun j => cred (tallyAt (recvCell c (bf j)) j N) : sProp 𝕄) :=
    bigSep_mono fun j _ => Pipeline.launchCred_tallyAt (.dma (recvS (bf j))) nxt prv nxt_prv prv_nxt j N c
  have hc : (bigSep (Finset.Ico 0 60) fun j => Pipeline.launchCred (fun d => tallyAt (credCell (prv d)) j 1) c)
      ⊢ (bigSep (Finset.Ico 0 60) fun j => cred (tallyAt (credCell c) j 1) : sProp 𝕄) :=
    bigSep_mono fun j _ => Pipeline.launchCred_tallyAt (.reg credS) prv nxt prv_nxt nxt_prv j 1 c
  isplitl [Hr]
  · iapply hr; iexact Hr
  · iapply hc; iexact Hc

/-! ## The deal -/

theorem bar_inj : Function.Injective barCell := fun c d h => congrArg (fun g : GSem nD τ sig => g.1.1) h
theorem osem_inj : Function.Injective osem := by decide
theorem osem_ne : ∀ k : Fin 5, osem k ≠ .reg barS := by decide
theorem own_inj : Function.Injective (fun x : Dev nD × Fin 5 => (((x.1 : Thread nD τ), osem x.2) : GSem nD τ sig)) := fun x y h =>
  Prod.ext (congrArg (fun g : GSem nD τ sig => g.1.1) h) (osem_inj (congrArg (fun g : GSem nD τ sig => g.2) h))

theorem cells_disj : Disjoint barCells ownCells := by
  rw [Finset.disjoint_left]
  intro g h h'
  obtain ⟨c, -, rfl⟩ := Finset.mem_image.mp h
  obtain ⟨x, -, e⟩ := Finset.mem_image.mp h'
  exact osem_ne x.2 (congrArg (fun g : GSem nD τ sig => g.2) e)

theorem on_bars (Φ : GSem nD τ sig → sProp 𝕄) : bigSep barCells Φ = bigSep Finset.univ fun c => Φ (barCell c) :=
  bigSep_image_of_injOn bar_inj.injOn Φ
theorem on_owns (Φ : GSem nD τ sig → sProp 𝕄) : bigSep ownCells Φ = bigSep Finset.univ fun c : Dev nD =>
    iprop(Φ (credCell c) ∗ Φ (sendCell c 0) ∗ Φ (sendCell c 1) ∗ Φ (recvCell c 0) ∗ Φ (recvCell c 1)) := by
  unfold ownCells
  rw [bigSep_image_of_injOn own_inj.injOn, BI.bigSep_univ_prod]
  exact BI.bigSep_congr fun c _ =>
    bigSep_univ_eq_bigSepL [(0 : Fin 5), 1, 2, 3, 4] (by decide) (by decide) (fun k : Fin 5 => Φ ((c : Thread nD τ), osem k))
theorem on_slots (Φ : SlotKey → sProp 𝕄) : bigSep Finset.univ Φ = bigSep Finset.univ fun c : Dev nD => iprop(Φ (c, 0) ∗ Φ (c, 1)) := by
  rw [BI.bigSep_univ_prod]
  exact BI.bigSep_congr fun c _ => BI.bigSep_fin_two fun b => Φ (c, b)

/-- What only one device holds. -/
def share (c : Dev nD) : sProp 𝕄 :=
  iprop(atPos ER (barCell c) 0 ∅ 0
    ∗ (openTok ER (credCell c) ∗ openTok ER (sendCell c 0) ∗ openTok ER (sendCell c 1) ∗ openTok ER (recvCell c 0) ∗ openTok ER (recvCell c 1))
    ∗ (readerAt ES ((c, 0) : SlotKey) 0 ∗ readerAt ES ((c, 1) : SlotKey) 0)
    ∗ tokBar (prv c) 0 ∗ tokBar (nxt c) 1 ∗ tokSend c ∗ tokRecv (nxt c) ∗ tokCred (prv c) ∗ tokWrite (nxt c) ∗ crBar c ∗ crRecv c ∗ crCred c)

/-- The records all devices read. -/
def records (P : Dev nD → Out F) (K : GSem nD τ sig → ℕ) (κ : SlotKey → ℕ) : sProp 𝕄 :=
  iprop(invs P K κ ∗ bigSep barCells fun g => reached ER g 0)

instance records_persistent (P : Dev nD → Out F) (K : GSem nD τ sig → ℕ) (κ : SlotKey → ℕ) : BI.Persistent (records P K κ) := by
  unfold records; infer_instance

theorem bar_reached (c : Dev nD) : (bigSep barCells fun g => (reached ER g 0 : sProp 𝕄)) ⊢ reached ER (barCell c) 0 :=
  pick (bar_mem c) fun g => reached ER g 0

theorem steps_join (c : Dev nD) : iprop(tokSend c ∗ tokRecv (nxt c) ∗ crRecv c ∗ tokWrite (nxt c))
    ⊢ (bigSep (Finset.Ico 0 62) (stepTok c) : sProp 𝕄) := by
  unfold tokSend tokRecv crRecv tokWrite stepTok
  rw [bigSep_sep', bigSep_sep', bigSep_sep']

theorem share_dealt (P : Dev nD → Out F) (K : GSem nD τ sig → ℕ) (κ : SlotKey → ℕ) (c : Dev nD) :
    iprop(records P K κ ∗ share c) ⊢ iprop(∃ K κ, dealt P K κ c) := by
  unfold records share dealt barOpen barTok toks tokBar crBar tokCred crCred
  iintro ⟨⟨#Hi, #Hr⟩, Hat, Ho, Hrd, Hb0, Hb1, Hs, Hv, Hc, Hw, Cb, Cr, Cc⟩
  iexists K, κ
  isplitr; · iexact Hi
  isplitr
  · isplitr
    · iapply (bar_reached (F := F) (prv c)); iexact Hr
    · iapply (bar_reached (F := F) (nxt c)); iexact Hr
  isplitl [Hb0 Hb1 Cb Hat]
  · isplitl [Hb0]; · iexact Hb0
    isplitl [Hb1]; · iexact Hb1
    isplitl [Cb]; · iexact Cb
    iexact Hat
  isplitl [Ho]; · iexact Ho
  isplitl [Hrd]; · iexact Hrd
  isplitl [Hs Hv Cr Hw]
  · iapply (steps_join (F := F) c)
    isplitl [Hs]; · iexact Hs
    isplitl [Hv]; · iexact Hv
    isplitl [Cr]; · iexact Cr
    iexact Hw
  isplitl [Hc]; · unfold grantTok; iexact Hc
  unfold waitTok; iexact Cc

/-- The cells and their tokens, by device. -/
theorem deal_cells (P : Dev nD → Out F) :
    iprop((bigSep Finset.univ fun c => semVal (barCell c) 0) ∗ BI.own (ER (launchOf barCells ownCells dutyToks)))
      ⊢ (|={Set.univ}=> ∃ K : GSem nD τ sig → ℕ, (bigSep barCells (fun g => cellInv ER (rd P) (K g) g) ∗ bigSep ownCells (fun g => cellInv ER (rd P) (K g) g))
          ∗ (bigSep barCells fun g => reached ER g 0)
          ∗ (bigSep Finset.univ fun c => atPos ER (barCell c) 0 ∅ 0)
          ∗ (bigSep Finset.univ fun c : Dev nD => iprop(openTok ER (credCell c) ∗ openTok ER (sendCell c 0) ∗ openTok ER (sendCell c 1)
              ∗ openTok ER (recvCell c 0) ∗ openTok ER (recvCell c 1)))
          ∗ bigSep Finset.univ fun c : Dev nD => iprop((tokBar c 0 ∗ tokBar c 1) ∗ tokSend c ∗ tokRecv c ∗ tokCred c) : sProp 𝕄) := by
  rw [← toks_split, ← on_owns (fun g => (openTok ER g : sProp 𝕄)), ← on_bars (fun g => (semVal g 0 : sProp 𝕄)),
    ← on_bars (fun g => (atPos ER g 0 ∅ 0 : sProp 𝕄))]
  iintro H
  imod (Rounds.fund_launch ER (rd P) cells_disj (fun g _ h => h) dutyToks) $$ H with ⟨%K, -, Hinv, Hr, Hat, Hopen, Htok⟩
  imodintro
  iexists K
  isplitl [Hinv]
  · iapply (Entails.of_eq (BI.bigSep_union cells_disj (Φ := fun g => (cellInv ER (rd P) (K g) g : sProp (MT nD τ sig ℕ (Elt F) ℕ UU ℕ))))); iexact Hinv
  isplitl [Hr]; · iexact Hr
  isplitl [Hat]; · iexact Hat
  isplitl [Hopen]; · iexact Hopen
  iexact Htok

/-- The receive slots' counts, by device. -/
theorem deal_slots :
    BI.own (ES (initSlots (Finset.univ : Finset SlotKey) 31))
      ⊢ (|={Set.univ}=> ∃ κ : SlotKey → ℕ, (bigSep Finset.univ fun k : SlotKey => slotInv ES (κ k) k (rSlot k))
          ∗ (bigSep Finset.univ fun c : Dev nD => iprop(readerAt ES ((c, 0) : SlotKey) 0 ∗ readerAt ES ((c, 1) : SlotKey) 0))
          ∗ bigSep Finset.univ fun c : Dev nD => tokWrite c : sProp 𝕄) := by
  rw [← writes_split, ← on_slots (fun k => (readerAt ES k 0 : sProp 𝕄))]
  iintro H
  imod (slots_init ES (Finset.univ : Finset SlotKey) 31 (rSlot (F := F))) $$ H with ⟨%κ, -, Hsl, Hrd, Hwr⟩
  imodintro
  iexists κ
  isplitl [Hsl]; · iexact Hsl
  isplitl [Hrd]; · iexact Hrd
  iexact Hwr

/-- The tokens and credits, handed around the ring. -/
theorem deal_around (A B C : Dev nD → sProp 𝕄) :
    iprop(bigSep Finset.univ A ∗ bigSep Finset.univ B ∗ bigSep Finset.univ C
        ∗ (bigSep Finset.univ fun c : Dev nD => iprop((tokBar c 0 ∗ tokBar c 1) ∗ tokSend c ∗ tokRecv c ∗ tokCred c))
        ∗ (bigSep Finset.univ fun c : Dev nD => tokWrite c) ∗ bigSep Finset.univ fun c : Dev nD => iprop(crBar c ∗ crRecv c ∗ crCred c))
      ⊢ (bigSep Finset.univ fun c : Dev nD => iprop(A c ∗ B c ∗ C c ∗ tokBar (prv c) 0 ∗ tokBar (nxt c) 1 ∗ tokSend c ∗ tokRecv (nxt c) ∗ tokCred (prv c)
          ∗ tokWrite (nxt c) ∗ crBar c ∗ crRecv c ∗ crCred c) : sProp 𝕄) := by
  simp only [bigSep_sep']
  iintro ⟨Ha, Hb, Hc, ⟨⟨T0, T1⟩, Ts, Tr, Tc⟩, Hw, Cb, Cr, Cc⟩
  isplitl [Ha]; · iexact Ha
  isplitl [Hb]; · iexact Hb
  isplitl [Hc]; · iexact Hc
  isplitl [T0]; · iapply (from_prev fun c => tokBar (F := F) c 0); iexact T0
  isplitl [T1]; · iapply (from_next fun c => tokBar (F := F) c 1); iexact T1
  isplitl [Ts]; · iexact Ts
  isplitl [Tr]; · iapply (from_next (tokRecv (F := F))); iexact Tr
  isplitl [Tc]; · iapply (from_prev (tokCred (F := F))); iexact Tc
  isplitl [Hw]; · iapply (from_next (tokWrite (F := F))); iexact Hw
  isplitl [Cb]; · iexact Cb
  isplitl [Cr]; · iexact Cr
  iexact Cc

theorem credits_all : (bigSep Finset.univ fun c : Dev nD => Pipeline.launchCred owedStart c)
    ⊢ (bigSep Finset.univ fun c : Dev nD => iprop(crBar c ∗ crRecv c ∗ crCred c) : sProp 𝕄) :=
  bigSep_mono fun c _ => credits c

theorem deal (P : Dev nD → Out F) :
    iprop((bigSep Finset.univ fun c => semVal (barCell c) 0) ∗ BI.own (ER (launchOf barCells ownCells dutyToks))
        ∗ BI.own (ES (initSlots (Finset.univ : Finset SlotKey) 31)) ∗ bigSep Finset.univ fun c : Dev nD => Pipeline.launchCred owedStart c)
      ⊢ (|={Set.univ}=> bigSep Finset.univ fun c => iprop(∃ K κ, dealt P K κ c) : sProp 𝕄) := by
  iintro ⟨Hz, Hu, Hs, Hc⟩
  imod (deal_cells P) $$ [Hz Hu] with ⟨%K, ⟨#Hib, #Hio⟩, #Hr, Hat, Hopen, Htok⟩
  · isplitl [Hz] <;> iassumption
  imod (deal_slots (F := F)) $$ Hs with ⟨%κ, #Hsl, Hrd, Hwr⟩
  ihave Hc := (credits_all (F := F)) $$ Hc
  imodintro
  iapply (bigSep_with_persistent (R := records P K κ) (Φ := share) fun c _ => share_dealt P K κ c)
  isplitr
  · unfold records invs
    isplitr
    · isplitr; · iexact Hib
      isplitr; · iexact Hio
      iexact Hsl
    iexact Hr
  unfold share
  iapply (deal_around (F := F) (fun c => atPos ER (barCell c) 0 ∅ 0) _ _)
  isplitl [Hat]; · iexact Hat
  isplitl [Hopen]; · iexact Hopen
  isplitl [Hrd]; · iexact Hrd
  isplitl [Htok]; · iexact Htok
  isplitl [Hwr]; · iexact Hwr
  iexact Hc

end Cert.Proof
-- ==== Proof.Launch.lean ====
/- The whole run: the launch, the host code and the region in order, and what every memory holds at the end. -/
module

public import proofs.«01_k».proof.Proof.Deal

@[expose] public section

set_option maxRecDepth 16384

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (BodyObligation Dat)

variable {F : FTy → Type} [FloatOps F]

local notation "𝕄" => MT nD τ sig ℕ (Elt F) ℕ UU ℕ

variable (m : (ℓ : Loc nD τ sig) → Buf (Elt F) ℓ) (ρ : Dev nD → PrngReg)

/-! ## The launch element -/

/-- The protocol's part of the launch element. -/
def uX : URounds (GSem nD τ sig) ℕ × USlots SlotKey := (launchOf barCells ownCells dutyToks, initSlots Finset.univ 31)

/-- The pipeline's part and the protocol's. -/
def u₀ : UU :=
  (initOf (Pipeline.cells (Pipeline.pin (pcfgs (F := F)) adm) cellOf_inj) (Pipeline.launchToks (Pipeline.pin (pcfgs (F := F)) adm) cellOf_inj), uX)

/-- Until the deal the protocol's part lies with the first device. -/
def G (c : Dev nD) : sProp 𝕄 := if c = 0 then BI.own ((embR : Emb _ 𝕄) uX) else iprop(emp)

theorem G_all : bigSep Finset.univ (G (F := F)) = BI.own ((embR : Emb _ 𝕄) uX) := by
  rw [bigSep_univ_at _ (0 : Dev nD), BI.bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem uX_split : (BI.own ((embR : Emb _ 𝕄) uX) : sProp 𝕄)
    ⊢ iprop(BI.own (ER (launchOf barCells ownCells dutyToks)) ∗ BI.own (ES (initSlots (Finset.univ : Finset SlotKey) 31))) :=
  own_pair_emb _ _ _

theorem launch_start : (ownU (u₀ (F := F)) : sProp 𝕄)
    ⊢ |={Set.univ}=> iprop(BI.own (EP (initOf (Pipeline.cells (Pipeline.pin (pcfgs (F := F)) adm) cellOf_inj)
        (Pipeline.launchToks (Pipeline.pin (pcfgs (F := F)) adm) cellOf_inj))) ∗ bigSep Finset.univ (G (F := F))) := by
  unfold u₀
  rw [G_all]
  iintro Hu
  ihave H := (ownU_pair _ _) $$ Hu
  icases H with ⟨HP, HX⟩
  imodintro
  isplitl [HP]; · iexact HP
  iexact HX

/-! ## From the launch to the first segment -/

theorem barrier_only (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device holds before its host code. -/
def T₀ (c : Dev nD) : sProp 𝕄 := iprop(StableHlo.held (c : Thread nD τ) (Pipeline.ucRefs τ sig) (V0 m c) ∗ rides m c)
/-- What it holds at the end. -/
def Tₙ (c : Dev nD) : sProp 𝕄 := iprop(StableHlo.held (c : Thread nD τ) (Pipeline.ucRefs τ sig) (W2 m c) ∗ semVal (barCell c) 0)

def loose (c : Dev nD) : sProp 𝕄 :=
  iprop(StableHlo.held (c : Thread nD τ) (Pipeline.ucRefs τ sig) (V0 m c) ∗ (∃ r, prngReg c r) ∗ owesAny c (owedStart c))

theorem launch_core (c : Dev nD) :
    iprop(unscopedBufs c (fun b => m ((c.tc : Thread nD τ).loc b)) ∗ unscopedSems0 c ∗ owes (c.tc : Thread nD τ) (owedStart c) ∅
        ∗ Pipeline.launchCred owedStart c ∗ prngReg c (ρ c) ∗ G c)
      ⊢ (iprop(loose m c ∗ semVal (barCell c) 0 ∗ Pipeline.launchCred owedStart c ∗ G c) : sProp 𝕄) := by
  rw [show unscopedBufs c (fun b => m ((c.tc : Thread nD τ).loc b)) = StableHlo.held (c : Thread nD τ) (Pipeline.ucRefs τ sig) (V0 m c) from
    Pipeline.unscopedBufs_held (Ix := ℕ) (Name := ℕ) (U := UU) (Lvl := ℕ) c (V0 m c), barrier_only]
  unfold loose owesAny
  iintro ⟨Hh, Hs, HO, Hc, Hp, HG⟩
  isplitl [Hh HO Hp]
  · isplitl [Hh]; · iexact Hh
    isplitl [Hp]; · iexists (ρ c); iexact Hp
    iexists ∅; iexact HO
  isplitl [Hs]; · iexact Hs
  isplitl [Hc]; · iexact Hc
  iexact HG

theorem start_core (c : Dev nD) : iprop(loose m c ∗ Tk m c) ⊢ T₀ m c := by
  unfold loose T₀ rides
  iintro ⟨⟨Hh, Hp, HO⟩, HT⟩
  isplitl [Hh]; · iexact Hh
  isplitl [Hp]; · iexact Hp
  isplitl [HT]; · iexact HT
  iexact HO

theorem launch_all :
    (bigSep Finset.univ fun c : Dev nD => iprop(loose m c ∗ semVal (barCell c) 0 ∗ Pipeline.launchCred owedStart c ∗ G c))
      ⊢ (|={Set.univ}=> bigSep Finset.univ (T₀ m) : sProp 𝕄) := by
  have h1 : (bigSep Finset.univ fun c : Dev nD => iprop(loose m c ∗ semVal (barCell c) 0 ∗ Pipeline.launchCred owedStart c ∗ G c))
      ⊢ (iprop((bigSep Finset.univ fun c : Dev nD => loose m c) ∗ (bigSep Finset.univ fun c : Dev nD => semVal (barCell c) 0)
          ∗ (bigSep Finset.univ fun c : Dev nD => Pipeline.launchCred owedStart c) ∗ BI.own ((embR : Emb _ 𝕄) uX)) : sProp 𝕄) := by
    rw [← G_all]; simp only [bigSep_sep']; exact BI.Entails.refl _
  have h2 : iprop((bigSep Finset.univ fun c : Dev nD => loose m c) ∗ bigSep Finset.univ fun c : Dev nD => Tk m c)
      ⊢ (bigSep Finset.univ (T₀ m) : sProp 𝕄) := by
    rw [← bigSep_sep']; exact bigSep_mono fun c _ => start_core m c
  iintro H
  ihave H := h1 $$ H
  icases H with ⟨Hl, Hz, Hc, Hu⟩
  ihave Hu := (uX_split (F := F)) $$ Hu
  icases Hu with ⟨Hr, Hs⟩
  imod (deal (part m)) $$ [Hz Hr Hs Hc] with HT
  · isplitl [Hz]; · iexact Hz
    isplitl [Hr]; · iexact Hr
    isplitl [Hs]; · iexact Hs
    iexact Hc
  imodintro
  iapply h2
  isplitl [Hl]; · iexact Hl
  unfold Tk
  iexact HT

theorem launch_init :
    iprop((bigSep Finset.univ fun c : Dev nD => iprop(unscopedBufs c (fun b => m ((c.tc : Thread nD τ).loc b)) ∗ unscopedSems0 c
          ∗ owes (c.tc : Thread nD τ) (owedStart c) ∅ ∗ Pipeline.launchCred owedStart c ∗ prngReg c (ρ c) ∗ G c)) ∗ levAts L lv)
      ⊢ (|={Set.univ}=> bigSep Finset.univ (T₀ m) : sProp 𝕄) := by
  refine (sep_mono_left (bigSep_mono fun c _ => launch_core m ρ c)).trans ?_
  iintro ⟨H, -⟩
  iapply (launch_all m); iexact H

/-! ## The run -/

theorem only_barrier : ∀ sm : SemLoc sig, sm.isScoped .tc = false → sm = .reg barS := by decide

theorem arg_mem (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

/-- What is read off a device's memory at the end. -/
def readOff (c : Dev nD) (s : MemSt nD τ sig (Elt F)) : Prop :=
  (s.mem ((c.tc : Thread nD τ).loc main_v15) = total m c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.sem (barCell c) = 0

theorem W2_arg (c : Dev nD) (r : Ref sig .tc) (h : r ≠ main_v15) (h' : r ∉ hostOps0_W) : W2 m c r = m ((c.tc : Thread nD τ).loc r) :=
  (W2_of m c r h).trans ((V1_of m c r h').trans rfl)

set_option backward.isDefEq.respectTransparency.types false in
theorem read_end (c : Dev nD) (s' : Phys nD τ sig (Elt F)) :
    iprop(Tₙ m c ∗ SI s') ⊢ (|={Set.univ}=> iprop(⌜readOff m c s'.mem⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (W2 m c) s') $$ [Hh HSI]
  · isplitl [Hh] <;> iassumption
  icases Hr with ⟨%h, HSI⟩
  imodintro
  isplitr
  · ipureintro
    exact ⟨⟨(h (Proc.devRef .tc main_v15) (arg_mem main_v15 (by decide))).trans (W2_out m c),
      (h (Proc.devRef .tc main_arg0) (arg_mem main_arg0 (by decide))).trans (W2_arg m c main_arg0 (by decide) (by decide)),
      (h (Proc.devRef .tc main_arg1) (arg_mem main_arg1 (by decide))).trans (W2_arg m c main_arg1 (by decide) (by decide)),
      (h (Proc.devRef .tc main_arg2) (arg_mem main_arg2 (by decide))).trans (W2_arg m c main_arg2 (by decide) (by decide)),
      (h (Proc.devRef .tc main_arg3) (arg_mem main_arg3 (by decide))).trans (W2_arg m c main_arg3 (by decide) (by decide)),
      (h (Proc.devRef .tc main_arg4) (arg_mem main_arg4 (by decide))).trans (W2_arg m c main_arg4 (by decide) (by decide))⟩,
      by simpa using hb⟩
  · iexact HSI

/-- A device's program in segments: the host code, then the region. -/
abbrev parts (c : Dev nD) : List (Pipeline.Seg (pcfgs (F := F)) adm (pdats m) 0 defs₀ 𝒱₀ L lv) :=
  segs m 𝒱₀ L lv (fun _ => rides m) 0 (pdats m) (reg m) c

set_option backward.isDefEq.respectTransparency.types false in
/-- From any memory every execution ends, each device's result holding the sum over the devices, the arguments
    unchanged, every counter at zero. -/
theorem run_main : θ_run defs (onTc (τ := τ) (main (F := F))) ⟨m, fun _ => 0, ρ⟩
    (fun r => (∀ c : Dev nD, r.2.mem ((c.tc : Thread nD τ).loc main_v15) = total m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Pipeline.θ_run_regions_kit_dev_sems (pcfgs (F := F)) adm (pdats m) 0 cellOf_inj EP defs₀ 𝒱₀ L lv m ρ main (parts m)
    (fun c Q => by
      rewrite [main_chain c, Pipeline.Seg.run_eq_chain,
        show (parts m c).map Pipeline.Seg.prog = [StableHlo.seq (hostOps0 c), Prog.lift (.customCall (Pipeline.entry 0) ())] from rfl]
      dsimp (config := { failIfUnchanged := false }) only
      exact .rfl)
    (fun c => by simp only [parts, segs, Pipeline.Seg.pipes_host, Pipeline.Seg.pipes_region, Pipeline.Seg.pipes_nil]; decide)
    owedStart L_of_ne (G (F := F)) u₀ launch_start (T₀ m) (Tₙ m)
    (fun c => ⟨.rfl, reg_pre m c, reg_post m c⟩) (launch_init m ρ) (readOff m) (read_end m)
    (fun s h hs => ⟨fun c => (h c).1, sem_eq_zero hs fun c sm hsm => by
      obtain rfl := only_barrier sm hsm
      exact (h c).2⟩)

end Cert.Proof
-- ==== Proof.Frames.lean ====
/- Each program's frame, read off its run. -/
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.SL.Sem

/-- The kernel's frame, whatever its floats are. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono (fun _ h => ⟨fun c => (h.1 c).2, h.2⟩) (run_main m g)

theorem kernelIdeal_frame : Cert.quiescent_KernelIdeal := fun m ρ _ => frame_any (F := Ideal) m ρ

theorem body_same : Cert.Kernel.cc0_body (F := Bits) = Cert.KernelIdeal.cc0_body (F := Bits) := rfl

theorem table_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

theorem defs_same : Cert.Kernel.defs (F := Bits) = Cert.KernelIdeal.defs (F := Bits) :=
  congrArg (Pipeline.defs (Cert.KernelIdeal.pcfgs (F := Bits))) table_same
theorem main_same : Cert.Kernel.main (F := Bits) = Cert.KernelIdeal.main (F := Bits) := rfl

/-- The printed kernel and its ideal reading are one program text, so its frame is the same run at words. -/
theorem kernel_frame : Cert.quiescent_Kernel := fun m ρ _ => by
  rw [defs_same]
  exact frame_any (F := Bits) m ρ

theorem referenceIdeal_frame : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Proof
-- ==== Proof.RingSum.lean ====
/- What the ring computes: after all its steps every device holds the sum of what the devices began with. -/
module

public import proofs.«01_k».proof.Proof.Attn
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (c : Dev nD)

/-! ## The rows a step reads and writes -/

/-- The sixteen-row block that device `d + k` deals with when the count goes backwards from it. -/
theorem off1_val : ∀ (d : Fin 32) (p : Fin 31), k0_off1 d (BitVec.ofNat 32 p.val) 1 = 16 * ((d.val + 32 - p.val) % 32) := by
  decide +kernel
theorem off2_val : ∀ (d : Fin 32) (p : Fin 31), k0_off2 d (BitVec.ofNat 32 p.val) 1 = 16 * ((d.val + 31 - p.val) % 32) := by
  decide +kernel
theorem off3_val : ∀ (d : Fin 32) (p : Fin 31), k0_off3 d (BitVec.ofNat 32 p.val) 1 = 16 * ((d.val + 33 - p.val) % 32) := by
  decide +kernel
theorem prv_val : ∀ d : Fin 32, (prv d).val = (d.val + 31) % 32 := by decide +kernel

theorem outPay_eq (v : Msg F) : outPay v = v := by
  unfold outPay
  funext i
  idx_vars i
  pointwise

theorem addPay_apply (v w : Msg F) (i) : addPay v w i = FloatOps.addf (v i) (w i) := by
  unfold addPay
  idx_vars i
  pointwise
  rw [Subsingleton.elim i0 0]

/-- A load of a window of a buffer, as the buffer reads. -/
theorem read_load {s : Shape} (m : Memref sig .tc .vmem s .f32) (f : m.view.ty.Contents (Elt F)) {off size : Fin s.rank → ℕ}
    (inb : ∀ a, off a + size a ≤ s.size a) :
    (m.access (Rect.unit off size inb)).read (Elt F) f = VecWindow.window (m.view.read (Elt F) f) off size inb := rfl

theorem rows_eq (o : Fin 3 → Nat) (h) (f : Out F) : rows o h f = VecWindow.window (s := S1x512x1024) f o S1x16x1024.size h := by
  have e := read_load outM f h
  rw [out_read] at e
  exact e

theorem putRows_eq (o : Fin 3 → Nat) (h) (f : Out F) (w : Msg F) :
    putRows o h f w = VecWindow.put (s := S1x512x1024) f o S1x16x1024.size w := by
  have e := read_store outM f h w
  rw [out_read, out_read] at e
  exact e

theorem rows_apply (o : Fin 3 → Nat) (h) (f : Out F) (a : Fin 16) (b : Fin 1024) (r : Fin 512) (h0 : o 0 = 0) (h2 : o 2 = 0)
    (hr : r.val = o 1 + a.val) : rows o h f (ix3 0 a b) = f (ix3 0 r b) := by
  rw [rows_eq]
  unfold VecWindow.window
  refine congrArg f (funext fun k => Fin.ext ?_)
  match k with
  | ⟨0, _⟩ => show o 0 + 1 * 0 = 0; omega
  | ⟨1, _⟩ => show o 1 + 1 * a.val = r.val; omega
  | ⟨2, _⟩ => show o 2 + 1 * b.val = b.val; omega

theorem putRows_apply (o : Fin 3 → Nat) (h) (f : Out F) (w : Msg F) (r : Fin 512) (b : Fin 1024) (h0 : o 0 = 0) (h2 : o 2 = 0) :
    putRows o h f w (ix3 0 r b) = if hr : o 1 ≤ r.val ∧ r.val < o 1 + 16 then w (ix3 0 ⟨r.val - o 1, by omega⟩ b) else f (ix3 0 r b) := by
  rw [putRows_eq]
  unfold VecWindow.put
  by_cases hr : o 1 ≤ r.val ∧ r.val < o 1 + 16
  · have hall : ∀ a, o a ≤ ((ix3 0 r b : S1x512x1024.Idx) a).val ∧ ((ix3 0 r b : S1x512x1024.Idx) a).val < o a + S1x16x1024.size a := fun a => by
      match a with
      | ⟨0, _⟩ => exact ⟨by show o 0 ≤ 0; omega, by show 0 < o 0 + 1; omega⟩
      | ⟨1, _⟩ => exact hr
      | ⟨2, _⟩ => exact ⟨by show o 2 ≤ b.val; omega, by show b.val < o 2 + 1024; omega⟩
    rw [dif_pos hall, dif_pos hr]
    refine congrArg w (funext fun k => Fin.ext ?_)
    match k with
    | ⟨0, _⟩ => show 0 - o 0 = 0; omega
    | ⟨1, _⟩ => rfl
    | ⟨2, _⟩ => show b.val - o 2 = b.val; omega
  · rw [dif_neg hr, dif_neg fun hall => hr (hall 1)]

/-! ## One step at one place -/

/-- The block of rows that device `c` changes in step `s`. -/
def blockOf (c : Dev nD) (s : ℕ) : ℕ := if s < 31 then (c.val + 31 - s) % 32 else (c.val + 32 - (s - 31)) % 32

theorem recvOff_val (c : Dev nD) (s : ℕ) (h : s < 62) : recvOff c s 0 = 0 ∧ recvOff c s 1 = 16 * blockOf c s ∧ recvOff c s 2 = 0 := by
  unfold recvOff blockOf
  by_cases h31 : s < 31
  · rw [if_pos h31, if_pos h31]; exact ⟨rfl, off2_val c ⟨s, h31⟩, rfl⟩
  · rw [if_neg h31, if_neg h31]; exact ⟨rfl, off1_val c ⟨s - 31, by omega⟩, rfl⟩

theorem sendOff_val (c : Dev nD) (s : ℕ) (h : s < 62) :
    sendOff (prv c) s 0 = 0 ∧ sendOff (prv c) s 1 = 16 * blockOf c s ∧ sendOff (prv c) s 2 = 0 := by
  have hp := prv_val c
  have hc : c.val < 32 := c.isLt
  unfold sendOff blockOf
  by_cases h31 : s < 31
  · rw [if_pos h31, if_pos h31]
    exact ⟨rfl, (off1_val (prv c) ⟨s, h31⟩).trans (by rw [hp]; show 16 * (((c.val + 31) % 32 + 32 - s) % 32) = _; omega), rfl⟩
  · rw [if_neg h31, if_neg h31]
    exact ⟨rfl, (off3_val (prv c) ⟨s - 31, by omega⟩).trans
      (by rw [hp]; show 16 * (((c.val + 31) % 32 + 33 - (s - 31)) % 32) = _; omega), rfl⟩

theorem step_apply (c : Dev nD) (s : ℕ) (hs : s < 62) (f g : Out F) (r : Fin 512) (b : Fin 1024) :
    stepOut c s f (msgOf (prv c) s g) (ix3 0 r b)
      = if r.val / 16 = blockOf c s then (if s < 31 then FloatOps.addf (f (ix3 0 r b)) (g (ix3 0 r b)) else g (ix3 0 r b)) else f (ix3 0 r b) := by
  obtain ⟨r0, r1, r2⟩ := recvOff_val c s hs
  obtain ⟨s0, s1, s2⟩ := sendOff_val c s hs
  unfold stepOut msgOf
  rw [dif_pos hs, dif_pos hs, outPay_eq, putRows_apply _ _ _ _ r b r0 r2]
  by_cases hq : r.val / 16 = blockOf c s
  · have hin : recvOff c s 1 ≤ r.val ∧ r.val < recvOff c s 1 + 16 := by omega
    rw [dif_pos hin, if_pos hq]
    have hf := rows_apply (recvOff c s) (recvOff_inb c s hs) f ⟨r.val - recvOff c s 1, by omega⟩ b r r0 r2
      (by show r.val = recvOff c s 1 + (r.val - recvOff c s 1); omega)
    have hg := rows_apply (sendOff (prv c) s) (sendOff_inb (prv c) s hs) g ⟨r.val - recvOff c s 1, by omega⟩ b r s0 s2
      (by show r.val = sendOff (prv c) s 1 + (r.val - recvOff c s 1); omega)
    unfold inPay
    by_cases h31 : s < 31
    · rw [if_pos h31, if_pos h31, addPay_apply, hf, hg]
    · rw [if_neg h31, if_neg h31, outPay_eq, hg]
  · rw [dif_neg (by omega), if_neg hq]

/-! ## All the steps -/

/-- How many devices after row block `a`'s own device `c` comes. -/
def gap (c : Dev nD) (a : ℕ) : ℕ := (c.val + 32 - a) % 32

variable (P : Dev nD → Out Ideal)

/-- The sum over `k` devices, from device `a` onwards around the ring. -/
def arc (a : ℕ) (k : ℕ) (i : S1x512x1024.Idx) : EReal := ∑ j ∈ Finset.range k, (P ⟨(a + j) % 32, Nat.mod_lt _ (by decide)⟩ i : EReal)

theorem outAt_reduce (r : Fin 512) (b : Fin 1024) (s : ℕ) (hs : s ≤ 31) : ∀ c : Dev nD,
    (outAt P s c (ix3 0 r b) : EReal)
      = if gap c (r.val / 16) ≤ s then arc P (r.val / 16) (gap c (r.val / 16) + 1) (ix3 0 r b) else P c (ix3 0 r b) := by
  have hr : r.val / 16 < 32 := by have := r.isLt; omega
  induction s with
  | zero =>
    intro c
    have hc : c.val < 32 := c.isLt
    by_cases h : gap c (r.val / 16) ≤ 0
    · rw [if_pos h]
      have hg : gap c (r.val / 16) = 0 := by omega
      rw [hg]
      unfold arc outAt
      rw [Finset.sum_range_one]
      refine congrArg (fun d => P d (ix3 0 r b)) (Fin.ext ?_)
      unfold gap at hg
      show c.val = (r.val / 16 + 0) % 32
      omega
    · rw [if_neg h]; rfl
  | succ s ih =>
    intro c
    have hc : c.val < 32 := c.isLt
    have hp := prv_val c
    have e : outAt P (s + 1) c = stepOut c s (outAt P s c) (msgOf (prv c) s (outAt P s (prv c))) := rfl
    rw [e, step_apply c s (by omega), ih (by omega) c, ih (by omega) (prv c), if_pos (show s < 31 by omega)]
    have hb : blockOf c s = (c.val + 31 - s) % 32 := by unfold blockOf; rw [if_pos (by omega)]
    rw [hb]
    have hg : gap c (r.val / 16) = (c.val + 32 - r.val / 16) % 32 := rfl
    have hg' : gap (prv c) (r.val / 16) = ((prv c).val + 32 - r.val / 16) % 32 := rfl
    by_cases hq : r.val / 16 = (c.val + 31 - s) % 32
    · have hgc : gap c (r.val / 16) = s + 1 := by omega
      have hgp : gap (prv c) (r.val / 16) = s := by omega
      rw [if_pos hq, hgc, hgp, if_neg (by omega), if_pos le_rfl, if_pos le_rfl]
      unfold arc
      rw [Finset.sum_range_succ _ (s + 1), Ideal.addf_def, add_comm]
      refine congrArg _ (congrArg (fun d => P d (ix3 0 r b)) (Fin.ext ?_))
      show c.val = (r.val / 16 + (s + 1)) % 32
      omega
    · rw [if_neg hq]
      have hne : gap c (r.val / 16) ≠ s + 1 := by omega
      by_cases hle : gap c (r.val / 16) ≤ s
      · rw [if_pos hle, if_pos (by omega)]
      · rw [if_neg hle, if_neg (by omega)]

theorem outAt_gather (r : Fin 512) (b : Fin 1024) (t : ℕ) (ht : t ≤ 31) : ∀ c : Dev nD,
    gap c (r.val / 16) < t ∨ gap c (r.val / 16) = 31 → (outAt P (31 + t) c (ix3 0 r b) : EReal) = arc P (r.val / 16) 32 (ix3 0 r b) := by
  have hr : r.val / 16 < 32 := by have := r.isLt; omega
  induction t with
  | zero =>
    intro c h
    have hg : gap c (r.val / 16) = 31 := by omega
    rw [outAt_reduce P r b 31 le_rfl c, hg, if_pos le_rfl]
  | succ t ih =>
    intro c h
    have hc : c.val < 32 := c.isLt
    have hp := prv_val c
    have e : outAt P (31 + t + 1) c = stepOut c (31 + t) (outAt P (31 + t) c) (msgOf (prv c) (31 + t) (outAt P (31 + t) (prv c))) := rfl
    rw [show 31 + (t + 1) = 31 + t + 1 from rfl, e, step_apply c (31 + t) (by omega), if_neg (show ¬ 31 + t < 31 by omega)]
    have hb : blockOf c (31 + t) = (c.val + 32 - t) % 32 := by unfold blockOf; rw [if_neg (by omega), Nat.add_sub_cancel_left]
    rw [hb]
    have hg : gap c (r.val / 16) = (c.val + 32 - r.val / 16) % 32 := rfl
    have hg' : gap (prv c) (r.val / 16) = ((prv c).val + 32 - r.val / 16) % 32 := rfl
    by_cases hq : r.val / 16 = (c.val + 32 - t) % 32
    · rw [if_pos hq]
      exact ih (by omega) (prv c) (by omega)
    · rw [if_neg hq]
      exact ih (by omega) c (by omega)

theorem arc_all (a : ℕ) (i : S1x512x1024.Idx) : arc P a 32 i = ∑ d : Fin 32, (P d i : EReal) := by
  unfold arc
  rw [Finset.sum_range fun j => (P ⟨(a + j) % 32, Nat.mod_lt _ (by decide)⟩ i : EReal)]
  refine Fintype.sum_bijective (fun j : Fin 32 => (⟨(a + j.val) % 32, Nat.mod_lt _ (by decide)⟩ : Fin 32)) ?_ _ _ fun j => rfl
  rw [Fintype.bijective_iff_injective_and_card]
  refine ⟨fun j k h => Fin.ext ?_, rfl⟩
  have := congrArg Fin.val h
  dsimp only at this
  omega

/-- After the 62 steps each device's result is the sum over all devices of what they began with. -/
theorem outAt_all (c : Dev nD) (r : Fin 512) (b : Fin 1024) :
    (outAt P 62 c (ix3 0 r b) : EReal) = ∑ d : Fin 32, (P d (ix3 0 r b) : EReal) := by
  have hg : gap c (r.val / 16) < 32 := Nat.mod_lt _ (by decide)
  exact (outAt_gather P r b 31 le_rfl c (by omega)).trans (arc_all P _ _)

end Cert.Proof
-- ==== Proof.Spec.lean ====
/- Attention of one head over the extended reals, as a formula of its rows and columns. -/
module

public import Idealize.ShloMosaic.Lib.Pointwise

@[expose] public section

noncomputable section

namespace Cert.Proof.Spec

open Idealize.ShloMosaic

/-- The factor before the exponential. -/
def scale : EReal := Ideal.ofBits .f32 0x3DB504F3#32
/-- Where a row's maximum starts. -/
def low : EReal := Ideal.ofBits .f32 0xFF800000#32

variable (q k v : Fin 512 → Fin 128 → EReal)

/-- The scaled product of a query row and a key row. -/
def score (i j : Fin 512) : EReal := (∑ d, q i d * k j d) * scale
/-- The largest score of a query row. -/
def peak (i : Fin 512) : EReal := Finset.univ.fold max low fun j => score q k i j
/-- The weight of a key row for a query row. -/
def weight (i j : Fin 512) : EReal := Ideal.exp (score q k i j - peak q k i)
/-- The weighted mean of the value rows. -/
def soft (i : Fin 512) (d : Fin 128) : EReal := Ideal.div (∑ j, weight q k i j * v j d) (∑ j, weight q k i j)

theorem max_low_peak (i : Fin 512) : max low (peak q k i) = peak q k i :=
  max_eq_right (Finset.le_fold_max low |>.mpr (Or.inl le_rfl))

/-- Some columns of the product of the input with a matrix. -/
def proj (x : Fin 512 → Fin 1024 → EReal) (w : Fin 1024 → Fin 128 → EReal) (i : Fin 512) (d : Fin 128) : EReal := ∑ n, x i n * w n d

/-- One head of the input, of the columns of the three matrices that are the head's. -/
def head (x : Fin 512 → Fin 1024 → EReal) (wq wk wv : Fin 1024 → Fin 128 → EReal) (i : Fin 512) (d : Fin 128) : EReal :=
  soft (proj x wq) (proj x wk) (proj x wv) i d

end Cert.Proof.Spec
-- ==== Proof.Heads.lean ====
/- The values of the attention heads over the extended reals. -/
module

public import proofs.«01_k».proof.Proof.Attn
public import proofs.«01_k».proof.Proof.Spec

@[expose] public section

set_option maxRecDepth 16384

noncomputable section

namespace Cert.Proof

open Cert.KernelIdeal Cert.KernelIdeal.Gen
open Idealize.ShloMosaic Idealize.ShloMosaic.TcCoe

/-! ## Every head is one term of its three blocks -/

section Term

variable {F : FTy → Type} [FloatOps F]

/-- The attention of one head, of its queries, keys and values. -/
def headTerm (q k v : Head F) : Head F :=
  have s : FVec F S512x512 .f32 := mulf (matmul dot_S512x128_S512x128_S512x512_1_1_0_0_n_n none q k (constant S512x512 .f32 0x00000000#32))
    (broadcast S512x512 (Scalar.ofBits .f32 0x3DB504F3#32 : F .f32))
  have m : FVec F S512 .f32 := multiReduction .maximumf [1] S512 s 0xFF800000#32 reduces_S512x512_S512 (.inl rfl) rfl
  have p : FVec F S512x512 .f32 := exp (subf s (broadcastTo S512x512 (shapeCast S512x1 m shapeCasts_S512_S512x1) broadcasts_S512x1_S512x512))
  have l : FVec F S512 .f32 := multiReduction .add [1] S512 p 0x00000000#32 reduces_S512x512_S512 (.inl rfl) rfl
  shapeCast S512x128 (divf (matmul dot_S512x512_S512x128_S512x128_1_0_0_1_n_n none p v (constant S512x128 .f32 0x00000000#32))
    (broadcastTo S512x128 (shapeCast S512x1 l shapeCasts_S512_S512x1) broadcasts_S512x1_S512x128)) shapeCasts_S512x128_S512x128

theorem slices_q : ∀ j : Fin 8, S512x1024.Slices ![0, 128 * j.val] S512x128 := by decide +kernel
theorem slices_kv : ∀ j : Fin 8, S512x256.Slices ![0, 128 * (j.val / 4)] S512x128 := by decide +kernel

theorem headOf_eq (x : S1x512x1024.Idx → Elt F .f32) (wq : S1024x1024.Idx → Elt F .f32) (wk wv : S1024x256.Idx → Elt F .f32) (j : Fin 8) :
    headOf x wq wk wv j = headTerm (extractStridedSlice S512x128 ![0, 128 * j.val] (k0_pay3 x wq) (slices_q j))
      (extractStridedSlice S512x128 ![0, 128 * (j.val / 4)] (k0_pay4 x wk) (slices_kv j))
      (extractStridedSlice S512x128 ![0, 128 * (j.val / 4)] (k0_pay5 (k0_pay2 x) wv) (slices_kv j)) :=
  match j with
  | 0 => rfl
  | 1 => rfl
  | 2 => rfl
  | 3 => rfl
  | 4 => rfl
  | 5 => rfl
  | 6 => rfl
  | 7 => rfl

end Term

/-! ## Their values -/

theorem headTerm_apply (q k v : Head Ideal) (i : Fin 512) (d : Fin 128) :
    (headTerm q k v (ix2 i d) : EReal)
      = Spec.soft (fun i d => q (ix2 i d)) (fun i d => k (ix2 i d)) (fun i d => v (ix2 i d)) i d := by
  pointwise [headTerm]
  rfl

/-- The input's rows. -/
abbrev inOf (x : S1x512x1024.Idx → Elt Ideal .f32) (i : Fin 512) (n : Fin 1024) : EReal := x (ix3 0 i n)

/-- A head's columns of the queries' matrix. -/
abbrev colsQ (w : S1024x1024.Idx → Elt Ideal .f32) (j : Fin 8) (n : Fin 1024) (d : Fin 128) : EReal := w (ix2 n ⟨128 * j.val + d.val, by omega⟩)
/-- A head's columns of the keys' or values' matrix: four heads share them. -/
abbrev colsKV (w : S1024x256.Idx → Elt Ideal .f32) (j : Fin 8) (n : Fin 1024) (d : Fin 128) : EReal :=
  w (ix2 n ⟨128 * (j.val / 4) + d.val, by omega⟩)

variable (x : S1x512x1024.Idx → Elt Ideal .f32) (wq wo : S1024x1024.Idx → Elt Ideal .f32) (wk wv : S1024x256.Idx → Elt Ideal .f32)

theorem q_apply (j : Fin 8) (i : Fin 512) (d : Fin 128) :
    (extractStridedSlice S512x128 ![0, 128 * j.val] (k0_pay3 x wq) (slices_q j) (ix2 i d) : EReal) = Spec.proj (inOf x) (colsQ wq j) i d := by
  pointwise [k0_pay3, k0_pay2]
  rfl

theorem k_apply (j : Fin 8) (i : Fin 512) (d : Fin 128) :
    (extractStridedSlice S512x128 ![0, 128 * (j.val / 4)] (k0_pay4 x wk) (slices_kv j) (ix2 i d) : EReal) = Spec.proj (inOf x) (colsKV wk j) i d := by
  pointwise [k0_pay4, k0_pay2]
  rfl

theorem v_apply (j : Fin 8) (i : Fin 512) (d : Fin 128) :
    (extractStridedSlice S512x128 ![0, 128 * (j.val / 4)] (k0_pay5 (k0_pay2 x) wv) (slices_kv j) (ix2 i d) : EReal)
      = Spec.proj (inOf x) (colsKV wv j) i d := by
  pointwise [k0_pay5, k0_pay2]
  rfl

theorem headOf_apply (j : Fin 8) (i : Fin 512) (d : Fin 128) :
    (headOf x wq wk wv j (ix2 i d) : EReal) = Spec.head (inOf x) (colsQ wq j) (colsKV wk j) (colsKV wv j) i d := by
  rw [headOf_eq, headTerm_apply]
  unfold Spec.head
  rw [show (fun i d => (extractStridedSlice S512x128 ![0, 128 * j.val] (k0_pay3 x wq) (slices_q j) (ix2 i d) : EReal)) = Spec.proj (inOf x) (colsQ wq j)
      from funext fun i => funext fun d => q_apply x wq j i d,
    show (fun i d => (extractStridedSlice S512x128 ![0, 128 * (j.val / 4)] (k0_pay4 x wk) (slices_kv j) (ix2 i d) : EReal)) = Spec.proj (inOf x) (colsKV wk j)
      from funext fun i => funext fun d => k_apply x wk j i d,
    show (fun i d => (extractStridedSlice S512x128 ![0, 128 * (j.val / 4)] (k0_pay5 (k0_pay2 x) wv) (slices_kv j) (ix2 i d) : EReal))
        = Spec.proj (inOf x) (colsKV wv j)
      from funext fun i => funext fun d => v_apply x wv j i d]

/-- The head of a column among a device's 1024. -/
def headIx (y : Fin 1024) : Fin 8 := ⟨y.val / 128, by omega⟩
/-- Its place in the head. -/
def headCol (y : Fin 1024) : Fin 128 := ⟨y.val % 128, by omega⟩

theorem catOf_apply (H : Fin 8 → Head Ideal) (i : Fin 512) (y : Fin 1024) : catOf H (ix2 i y) = H (headIx y) (ix2 i (headCol y)) := by
  show H (catHead (ix2 i y)) (catLocal (ix2 i y)) = _
  have e : catLocal (ix2 i y) = ix2 i (headCol y) := funext fun a => Fin.ext (match a with | ⟨0, _⟩ => rfl | ⟨1, _⟩ => rfl)
  rw [e]
  rfl

/-- What one device adds to the sum, at one place. -/
theorem partOf_apply (i : Fin 512) (b : Fin 1024) :
    (partOf x wq wo wk wv (ix3 0 i b) : EReal)
      = ∑ y, Spec.head (inOf x) (colsQ wq (headIx y)) (colsKV wk (headIx y)) (colsKV wv (headIx y)) i (headCol y) * wo (ix2 y b) := by
  have e : (partOf x wq wo wk wv (ix3 0 i b) : EReal) = ∑ y : Fin 1024, catOf (headOf x wq wk wv) (ix2 i y) * wo (ix2 y b) := by
    unfold partOf
    generalize catOf (headOf x wq wk wv) = H
    pointwise [k0_pay20]
    try rfl
  rw [e]
  exact Finset.sum_congr rfl fun y _ => by rw [catOf_apply, headOf_apply]

end Cert.Proof
-- ==== Proof.HostCols.lean ====
/- The columns of the keys' and values' matrices that a device cuts out before the kernel starts. -/
module

public import proofs.«01_k».proof.Proof.Heads
public import proofs.«01_k».proof.Proof.Body
public import Idealize.ShloMosaic.Lib.Claim

@[expose] public section

set_option maxRecDepth 16384

noncomputable section

namespace Cert.Proof

open Cert.KernelIdeal Cert.KernelIdeal.Gen
open Idealize.ShloMosaic Idealize.ShloMosaic.TcCoe

variable {F : FTy → Type} [FloatOps F]

/-- A device's place among the 32 times 256, as the program computes it. -/
def placeWord (c : Dev nD) : S_.Idx → BitVec 32 :=
  muli (id (Host.remui (Host.divui (constantI S_ 32 (Dev.word c)) (constantI S_ 32 1#32)) (constantI S_ 32 32#32))) (constantI S_ 32 256#32)

/-- The first column a device cuts out, as the program computes it: a negative place would count from the end. -/
def startWord (c : Dev nD) : S_.Idx → BitVec 32 :=
  select (cmpi CmpIPredicate.slt (placeWord c) (constantI S_ 32 0#32)) (addi (placeWord c) (constantI S_ 32 8192#32)) (placeWord c)

theorem startWord_val : ∀ c : Fin 32, (startWord c (Shape.Idx.first h_S_)).toInt = 256 * (c.val : ℤ) := by decide +kernel

/-- The cut of columns `256 c` to `256 c + 255`. -/
def cutOf (c : Dev nD) (w : S1024x8192.Idx → Elt F .f32) : S1024x256.Idx → Elt F .f32 :=
  Host.dynamicSlice S1024x256 w ![0, 256 * (c.val : ℤ)] sliceFits_S1024x8192_S1024x256

variable (m : (ℓ : Loc nD τ sig) → Buf (Elt F) ℓ) (c : Dev nD)

theorem cutK_eq : V1 m c main_v9 = cutOf c (m ((c.tc : Thread nD τ).loc main_arg2)) := by
  unfold V1
  entry_read
  unfold cutOf
  refine congrArg (fun st => Host.dynamicSlice S1024x256 (m ((c.tc : Thread nD τ).loc main_arg2)) st sliceFits_S1024x8192_S1024x256) (funext fun k => ?_)
  match k with
  | 0 =>
    simp only [Matrix.cons_val_zero]
    after_results_simp
    rfl
  | 1 =>
    simp only [Matrix.cons_val_one, Matrix.cons_val_zero]
    refine (congrArg (fun f : S_.Idx → BitVec 32 => BitVec.toInt (f (Shape.Idx.first h_S_))) (cast_eq rfl _)).trans ?_
    after_results_simp
    exact startWord_val c

theorem cutV_eq : V1 m c main_v14 = cutOf c (m ((c.tc : Thread nD τ).loc main_arg3)) := by
  unfold V1
  entry_read
  unfold cutOf
  refine congrArg (fun st => Host.dynamicSlice S1024x256 (m ((c.tc : Thread nD τ).loc main_arg3)) st sliceFits_S1024x8192_S1024x256) (funext fun k => ?_)
  match k with
  | 0 =>
    simp only [Matrix.cons_val_zero]
    after_results_simp
    rfl
  | 1 =>
    simp only [Matrix.cons_val_one, Matrix.cons_val_zero]
    refine (congrArg (fun f : S_.Idx → BitVec 32 => BitVec.toInt (f (Shape.Idx.first h_S_))) (cast_eq rfl _)).trans ?_
    after_results_simp
    exact startWord_val c

theorem cutOf_apply (w : S1024x8192.Idx → Elt F .f32) (n : Fin 1024) (b : Fin 256) :
    cutOf c w (ix2 n b) = w (ix2 n ⟨256 * c.val + b.val, by have : c.val < 32 := c.isLt; omega⟩) := by
  have hc : c.val < 32 := c.isLt
  unfold cutOf
  rw [Host.dynamicSlice_apply]
  refine congrArg w (funext fun a => Fin.ext ?_)
  match a with
  | ⟨0, _⟩ =>
    have e := Host.clampedStart_of_le (s := S1024x8192) (t := S1024x256) rfl ![0, 256 * (c.val : ℤ)] 0 0 rfl (by decide)
    show Host.clampedStart S1024x8192 S1024x256 _ ![0, 256 * (c.val : ℤ)] 0 + n.val = n.val
    rw [e, Nat.zero_add]
  | ⟨1, _⟩ =>
    have e := Host.clampedStart_of_le (s := S1024x8192) (t := S1024x256) rfl ![0, 256 * (c.val : ℤ)] 1 (256 * c.val) (by show 256 * (c.val : ℤ) = _; omega)
      (by show 256 * c.val + 256 ≤ 8192; omega)
    show Host.clampedStart S1024x8192 S1024x256 _ ![0, 256 * (c.val : ℤ)] 1 + b.val = 256 * c.val + b.val
    rw [e]

end Cert.Proof
-- ==== Proof.RefVal.lean ====
/- The reference's result over the extended reals, as a sum over its 32768 columns of heads. -/
module

public import proofs.«01_k».proof.Proof.Gen.ReferenceIdeal.Run
public import proofs.«01_k».proof.Proof.Spec

@[expose] public section

set_option maxRecDepth 16384

noncomputable section

namespace Cert.Proof.Ref

open Cert.ReferenceIdeal Cert.ReferenceIdeal.Gen
open Idealize.ShloMosaic Idealize.ShloMosaic.TcCoe

/-! ## The program's term in pieces -/

section Term

variable {F : FTy → Type} [FloatOps F]

/-- The queries of all heads. -/
def qTerm (x : FVec F S1x512x1024 .f32) (w : FVec F S1024x32768 .f32) : FVec F S1x512x256x128 .f32 :=
  shapeCast S1x512x256x128 (Host.dotGeneral dot_S1x512x1024_S1024x32768_S1x512x32768_2_0_01_1_n_n none x w) shapeCasts_S1x512x32768_S1x512x256x128

/-- The keys or values of all heads, each of the 64 repeated for four heads. -/
def kvTerm (x : FVec F S1x512x1024 .f32) (w : FVec F S1024x8192 .f32) : FVec F S1x512x256x128 .f32 :=
  shapeCast S1x512x256x128 (broadcastInDim S1x512x64x4x128 ![0, 1, 2, 4] bcast_S1x512x64x128_S1x512x64x4x128_0_1_2_4
    (shapeCast S1x512x64x128 (Host.dotGeneral dot_S1x512x1024_S1024x8192_S1x512x8192_2_0_01_1_n_n none x w) shapeCasts_S1x512x8192_S1x512x64x128))
    shapeCasts_S1x512x64x4x128_S1x512x256x128

/-- The scaled scores. -/
def scoreTerm (q k : FVec F S1x512x256x128 .f32) : FVec F S1x256x512x512 .f32 :=
  mulf (Host.dotGeneral dot_S1x512x256x128_S1x512x256x128_S1x256x512x512_3_3_1_1_02_02 none q k)
    (broadcastInDim S1x256x512x512 ![] bcast_S_S1x256x512x512 (constant S_ .f32 0x3DB504F3#32))

/-- The running maximum's first value. -/
def lowTerm : FVec F S1x256x512x1 .f32 := broadcastInDim S1x256x512x1 ![] bcast_S_S1x256x512x1 (constant S_ .f32 0xFF800000#32)

/-- The running maximum after the one block of keys. -/
def peakTerm (s : FVec F S1x256x512x512 .f32) : FVec F S1x256x512x1 .f32 :=
  maximumf lowTerm (broadcastInDim S1x256x512x1 ![0, 1, 2] bcast_S1x256x512_S1x256x512x1_0_1_2
    (Host.reduce FloatOps.maximumf s (constant S_ .f32 0xFF800000#32) reducesTo_S1x256x512x512_S1x256x512_d3 h_S_))

/-- What the earlier sums are multiplied by. -/
def alphaTerm (m : FVec F S1x256x512x1 .f32) : FVec F S1x256x512x1 .f32 := Host.exp (subf lowTerm m)

/-- The weights. -/
def weightTerm (s : FVec F S1x256x512x512 .f32) (m : FVec F S1x256x512x1 .f32) : FVec F S1x256x512x512 .f32 :=
  Host.exp (subf s (broadcastInDim S1x256x512x512 ![0, 1, 2, 3] bcast_S1x256x512x1_S1x256x512x512_0_1_2_3 m))

/-- The sums of the weights. -/
def sumTerm (a : FVec F S1x256x512x1 .f32) (p : FVec F S1x256x512x512 .f32) : FVec F S1x256x512x1 .f32 :=
  addf (mulf (broadcastInDim S1x256x512x1 ![] bcast_S_S1x256x512x1 (constant S_ .f32 0x00000000#32)) a)
    (broadcastInDim S1x256x512x1 ![0, 1, 2] bcast_S1x256x512_S1x256x512x1_0_1_2
      (Host.reduceAdd p (constant S_ .f32 0x00000000#32) reducesTo_S1x256x512x512_S1x256x512_d3 h_S_))

/-- The weighted sums of the values. -/
def outTerm (a : FVec F S1x256x512x1 .f32) (p : FVec F S1x256x512x512 .f32) (v : FVec F S1x512x256x128 .f32) : FVec F S1x512x256x128 .f32 :=
  addf (mulf (broadcastInDim S1x512x256x128 ![] bcast_S_S1x512x256x128 (constant S_ .f32 0x00000000#32))
      (broadcastInDim S1x512x256x128 ![0, 1, 2, 3] bcast_S1x512x256x1_S1x512x256x128_0_1_2_3
        (transpose S1x512x256x1 [0, 2, 1, 3] a transposes_S1x256x512x1_S1x512x256x1_0_2_1_3)))
    (transpose S1x512x256x128 [0, 3, 1, 2] (Host.dotGeneral dot_S1x512x256x128_S1x256x512x512_S1x256x128x512_1_3_3_2_02_01 none v p)
      transposes_S1x256x128x512_S1x512x256x128_0_3_1_2)

/-- All heads' results. -/
def headsTerm (q k v : FVec F S1x512x256x128 .f32) : FVec F S1x512x256x128 .f32 :=
  Host.divf (outTerm (alphaTerm (peakTerm (scoreTerm q k))) (weightTerm (scoreTerm q k) (peakTerm (scoreTerm q k))) v)
    (broadcastInDim S1x512x256x128 ![0, 1, 2, 3] bcast_S1x512x256x1_S1x512x256x128_0_1_2_3
      (transpose S1x512x256x1 [0, 2, 1, 3]
        (sumTerm (alphaTerm (peakTerm (scoreTerm q k))) (weightTerm (scoreTerm q k) (peakTerm (scoreTerm q k))))
        transposes_S1x256x512x1_S1x512x256x1_0_2_1_3))

/-- The output projection. -/
def projTerm (h : FVec F S1x512x256x128 .f32) (w : FVec F S32768x1024 .f32) : FVec F S1x512x1024 .f32 :=
  Host.dotGeneral dot_S1x512x32768_S32768x1024_S1x512x1024_2_0_01_1_n_n none (shapeCast S1x512x32768 h shapeCasts_S1x512x256x128_S1x512x32768) w

theorem res_eq (m : (ℓ : Loc nD τ sig) → Buf (Elt F) ℓ) (c : Dev nD) :
    Value.res_out0 m c = projTerm (headsTerm (qTerm (m ((c.tc : Thread nD τ).loc main_arg0)) (m ((c.tc : Thread nD τ).loc main_arg1)))
      (kvTerm (m ((c.tc : Thread nD τ).loc main_arg0)) (m ((c.tc : Thread nD τ).loc main_arg2)))
      (kvTerm (m ((c.tc : Thread nD τ).loc main_arg0)) (m ((c.tc : Thread nD τ).loc main_arg3))))
      (m ((c.tc : Thread nD τ).loc main_arg4)) := by
  show Value.res_main_v38 m c = _
  unfold Value.res_main_v38
  rfl

end Term

/-! ## The pieces' values -/

theorem score_apply (q k : FVec Ideal S1x512x256x128 .f32) (h : Fin 256) (i j : Fin 512) :
    (scoreTerm q k (ix4 0 h i j) : EReal) = Spec.score (fun i d => q (ix4 0 i h d)) (fun i d => k (ix4 0 i h d)) i j := by
  pointwise [scoreTerm]
  rfl

theorem reduces_d3 : S1x256x512x512.Reduces [3] S1x256x512 := by decide

theorem lift_d3 (h : Fin 256) (i j : Fin 512) : reduces_d3.lift (ix3 0 h i) j = ix4 0 h i j := by
  funext a
  refine Fin.ext ?_
  match a with
  | ⟨0, _⟩ => rfl
  | ⟨1, _⟩ => rfl
  | ⟨2, _⟩ => rfl
  | ⟨3, _⟩ => rfl

theorem max_apply (s : FVec Ideal S1x256x512x512 .f32) (h : Fin 256) (i : Fin 512) :
    Host.reduce (FloatOps.maximumf (F := Ideal) (φ := .f32)) s (constant (F := Ideal) S_ .f32 0xFF800000#32) reducesTo_S1x256x512x512_S1x256x512_d3 h_S_ (ix3 0 h i)
      = (Finset.univ.fold max Spec.low fun j : Fin 512 => (s (ix4 0 h i j) : EReal)) := by
  have e := Host.reduce_eq_fold_single (u := S_) (max : EReal → EReal → EReal) s (fun _ => Spec.low) reducesTo_S1x256x512x512_S1x256x512_d3 reduces_d3 h_S_ (ix3 0 h i)
  have e2 : (s ∘ reduces_d3.lift (ix3 0 h i)) = fun j : Fin 512 => (s (ix4 0 h i j) : EReal) := funext fun j => congrArg s (lift_d3 h i j)
  rw [e2] at e
  exact e

theorem low_apply (y : S1x256x512x1.Idx) : (lowTerm (F := Ideal) y : EReal) = Spec.low := rfl

theorem bcast_apply (R : FVec Ideal S1x256x512 .f32) (h : Fin 256) (i : Fin 512) :
    broadcastInDim S1x256x512x1 ![0, 1, 2] bcast_S1x256x512_S1x256x512x1_0_1_2 R (ix4 0 h i 0) = R (ix3 0 h i) := by
  pointwise

theorem peak_apply (s : FVec Ideal S1x256x512x512 .f32) (h : Fin 256) (i : Fin 512) :
    (peakTerm s (ix4 0 h i 0) : EReal) = max Spec.low (Finset.univ.fold max Spec.low fun j => s (ix4 0 h i j)) := by
  unfold peakTerm
  refine (maximumf_apply _ _ _).trans ?_
  rw [bcast_apply]
  exact congrArg₂ max (low_apply _) (max_apply s h i)

theorem weight_apply (s : FVec Ideal S1x256x512x512 .f32) (m : FVec Ideal S1x256x512x1 .f32) (h : Fin 256) (i j : Fin 512) :
    (weightTerm s m (ix4 0 h i j) : EReal) = Ideal.exp (s (ix4 0 h i j) - m (ix4 0 h i 0)) := by
  pointwise [weightTerm]
  try rfl

theorem sum_apply (a : FVec Ideal S1x256x512x1 .f32) (p : FVec Ideal S1x256x512x512 .f32) (h : Fin 256) (i : Fin 512) :
    (sumTerm a p (ix4 0 h i 0) : EReal) = ∑ j, p (ix4 0 h i j) := by
  pointwise [sumTerm]
  rw [zero_mul, zero_add]

theorem out_apply (a : FVec Ideal S1x256x512x1 .f32) (p : FVec Ideal S1x256x512x512 .f32) (v : FVec Ideal S1x512x256x128 .f32)
    (h : Fin 256) (i : Fin 512) (d : Fin 128) :
    (outTerm a p v (ix4 0 i h d) : EReal) = ∑ j, p (ix4 0 h i j) * v (ix4 0 j h d) := by
  pointwise [outTerm]
  rw [zero_mul, zero_add]
  exact Finset.sum_congr rfl fun j _ => mul_comm _ _

theorem q_apply (x : FVec Ideal S1x512x1024 .f32) (w : FVec Ideal S1024x32768 .f32) (i : Fin 512) (h : Fin 256) (d : Fin 128) :
    (qTerm x w (ix4 0 i h d) : EReal) = Spec.proj (fun i n => x (ix3 0 i n)) (fun n d => w (ix2 n ⟨h.val * 128 + d.val, by omega⟩)) i d := by
  pointwise [qTerm]
  try rfl

theorem kv_apply (x : FVec Ideal S1x512x1024 .f32) (w : FVec Ideal S1024x8192 .f32) (i : Fin 512) (h : Fin 256) (d : Fin 128) :
    (kvTerm x w (ix4 0 i h d) : EReal) = Spec.proj (fun i n => x (ix3 0 i n)) (fun n d => w (ix2 n ⟨h.val / 4 * 128 + d.val, by omega⟩)) i d := by
  pointwise [kvTerm]
  try rfl

theorem proj_apply (h : FVec Ideal S1x512x256x128 .f32) (w : FVec Ideal S32768x1024 .f32) (i : Fin 512) (b : Fin 1024) :
    (projTerm h w (ix3 0 i b) : EReal) = ∑ y : Fin 32768, h (ix4 0 i ⟨y.val / 128, by omega⟩ ⟨y.val % 128, by omega⟩) * w (ix2 y b) := by
  pointwise [projTerm]
  try rfl

theorem heads_apply (q k v : FVec Ideal S1x512x256x128 .f32) (i : Fin 512) (h : Fin 256) (d : Fin 128) :
    (headsTerm q k v (ix4 0 i h d) : EReal)
      = Spec.soft (fun i d => q (ix4 0 i h d)) (fun i d => k (ix4 0 i h d)) (fun i d => v (ix4 0 i h d)) i d := by
  have hw : ∀ j, (weightTerm (scoreTerm q k) (peakTerm (scoreTerm q k)) (ix4 0 h i j) : EReal)
      = Spec.weight (fun i d => q (ix4 0 i h d)) (fun i d => k (ix4 0 i h d)) i j := fun j => by
    rw [weight_apply, peak_apply, score_apply]
    refine congrArg (fun t : EReal => Ideal.exp (Spec.score (fun i d => q (ix4 0 i h d)) (fun i d => k (ix4 0 i h d)) i j - t)) ?_
    rw [show (fun j => (scoreTerm q k (ix4 0 h i j) : EReal)) = fun j => Spec.score (fun i d => q (ix4 0 i h d)) (fun i d => k (ix4 0 i h d)) i j
      from funext fun j => score_apply q k h i j]
    exact Spec.max_low_peak _ _ i
  have hs := sum_apply (alphaTerm (peakTerm (scoreTerm q k))) (weightTerm (scoreTerm q k) (peakTerm (scoreTerm q k))) h i
  have ho := out_apply (alphaTerm (peakTerm (scoreTerm q k))) (weightTerm (scoreTerm q k) (peakTerm (scoreTerm q k))) v h i d
  simp only [hw] at hs ho
  unfold headsTerm
  generalize alphaTerm (peakTerm (scoreTerm q k)) = A at hs ho ⊢
  generalize weightTerm (scoreTerm q k) (peakTerm (scoreTerm q k)) = W at hs ho ⊢
  generalize sumTerm A W = L at hs ho ⊢
  generalize outTerm A W v = O at hs ho ⊢
  pointwise
  rw [hs, ho]
  rfl

/-- The head of a column among all 32768. -/
def headIx (y : Fin 32768) : Fin 256 := ⟨y.val / 128, by omega⟩
/-- Its place in the head. -/
def headCol (y : Fin 32768) : Fin 128 := ⟨y.val % 128, by omega⟩

/-- The reference's result at one place. -/
theorem ref_apply (x : FVec Ideal S1x512x1024 .f32) (wq : FVec Ideal S1024x32768 .f32) (wk wv : FVec Ideal S1024x8192 .f32) (wo : FVec Ideal S32768x1024 .f32)
    (i : Fin 512) (b : Fin 1024) :
    (projTerm (headsTerm (qTerm x wq) (kvTerm x wk) (kvTerm x wv)) wo (ix3 0 i b) : EReal)
      = ∑ y : Fin 32768, Spec.head (fun i n => x (ix3 0 i n)) (fun n d => wq (ix2 n ⟨(headIx y).val * 128 + d.val, by omega⟩))
          (fun n d => wk (ix2 n ⟨(headIx y).val / 4 * 128 + d.val, by omega⟩)) (fun n d => wv (ix2 n ⟨(headIx y).val / 4 * 128 + d.val, by omega⟩))
          i (headCol y) * wo (ix2 y b) := by
  rw [proj_apply]
  refine Finset.sum_congr rfl fun y _ => congrArg (· * (wo (ix2 y b) : EReal)) ?_
  refine (heads_apply _ _ _ i (headIx y) (headCol y)).trans ?_
  unfold Spec.head
  simp only [q_apply, kv_apply]

end Cert.Proof.Ref
-- ==== Proof.Algebra.lean ====
/- Over the extended reals the kernel's result is the reference's. -/
module

public import proofs.«01_k».proof.Proof.RingSum
public import proofs.«01_k».proof.Proof.HostCols
public import proofs.«01_k».proof.Proof.RefVal
public import proofs.«01_k».proof.Proof.Launch
public import proofs.«01_k».proof.Defs
public import Idealize.ShloMosaic.Lib.LayoutAt

@[expose] public section

set_option maxRecDepth 16384

noncomputable section

namespace Cert.Proof

open Cert.KernelIdeal Cert.KernelIdeal.Gen
open Idealize.ShloMosaic Idealize.ShloMosaic.TcCoe
open Idealize.SL Idealize.SL.Sem

/-! ## The devices' blocks of the divided matrices -/

/-- A device's 1024 columns of the queries' matrix. -/
abbrev blockQ (c : Dev nD) (w : (⟨2, ![1024, 32768]⟩ : Shape).Idx → EReal) : S1024x1024.Idx → EReal :=
  Layout.block ⟨2, ![1024, 1024]⟩ ⟨2, ![1024, 32768]⟩ 1 32 c w
/-- A device's 1024 rows of the output matrix. -/
abbrev blockO (c : Dev nD) (w : (⟨2, ![32768, 1024]⟩ : Shape).Idx → EReal) : S1024x1024.Idx → EReal :=
  Layout.block ⟨2, ![1024, 1024]⟩ ⟨2, ![32768, 1024]⟩ 0 32 c w

/-- A device's column or row among all. -/
def wide (c : Fin 32) (y : Fin 1024) : Fin 32768 := ⟨1024 * c.val + y.val, by omega⟩

theorem tilesQ : Layout.Tiles ⟨2, ![1024, 1024]⟩ ⟨2, ![1024, 32768]⟩ 1 32 := by decide
theorem tilesO : Layout.Tiles ⟨2, ![1024, 1024]⟩ ⟨2, ![32768, 1024]⟩ 0 32 := by decide

theorem blockQ_apply (c : Fin 32) (w : (⟨2, ![1024, 32768]⟩ : Shape).Idx → EReal) (n y : Fin 1024) :
    blockQ c w (ix2 n y) = w (ix2 n (wide c y)) := by
  refine congrArg w (funext fun a => Fin.ext ?_)
  match a with
  | ⟨0, _⟩ => exact tilesQ.idx_val_of_ne c (ix2 n y) (0 : Fin 2) (by decide)
  | ⟨1, _⟩ => exact (tilesQ.idx_val_self c (ix2 n y) (1 : Fin 2) rfl).trans (by show c.val * 1024 + y.val = 1024 * c.val + y.val; omega)

theorem blockO_apply (c : Fin 32) (w : (⟨2, ![32768, 1024]⟩ : Shape).Idx → EReal) (y b : Fin 1024) :
    blockO c w (ix2 y b) = w (ix2 (wide c y) b) := by
  refine congrArg w (funext fun a => Fin.ext ?_)
  match a with
  | ⟨0, _⟩ => exact (tilesO.idx_val_self c (ix2 y b) (0 : Fin 2) rfl).trans (by show c.val * 1024 + y.val = 1024 * c.val + y.val; omega)
  | ⟨1, _⟩ => exact tilesO.idx_val_of_ne c (ix2 y b) (1 : Fin 2) (by decide)

/-- A sum over all columns is the sum over the devices of the sums over theirs. -/
theorem sum_wide (f : Fin 32768 → EReal) : ∑ y, f y = ∑ c : Fin 32, ∑ y : Fin 1024, f (wide c y) := by
  rw [← Fintype.sum_prod_type' (f := fun (c : Fin 32) (y : Fin 1024) => f (wide c y))]
  refine (Fintype.sum_equiv (finProdFinEquiv (m := 32) (n := 1024)) (fun p => f (wide p.1 p.2)) f fun p => congrArg f (Fin.ext ?_)).symm
  show 1024 * p.1.val + p.2.val = p.2.val + 1024 * p.1.val
  omega

/-! ## The devices' parts add up to the reference -/

theorem parts_sum (x : S1x512x1024.Idx → EReal) (wq : (⟨2, ![1024, 32768]⟩ : Shape).Idx → EReal) (wk wv : S1024x8192.Idx → EReal)
    (wo : (⟨2, ![32768, 1024]⟩ : Shape).Idx → EReal) (i : Fin 512) (b : Fin 1024) :
    (∑ c : Fin 32, (partOf (F := Ideal) x (blockQ c wq) (blockO c wo) (cutOf (F := Ideal) c wk) (cutOf (F := Ideal) c wv) (ix3 0 i b) : EReal))
      = Ref.projTerm (F := Ideal) (Ref.headsTerm (Ref.qTerm x wq) (Ref.kvTerm x wk) (Ref.kvTerm x wv)) wo (ix3 0 i b) := by
  refine Eq.trans ?_ (Ref.ref_apply x wq wk wv wo i b).symm
  rw [sum_wide]
  refine Finset.sum_congr rfl fun c _ => (partOf_apply _ _ _ _ _ i b).trans (Finset.sum_congr rfl fun y _ => ?_)
  have hc := c.isLt
  have hy := y.isLt
  have hh : (headIx y).val = y.val / 128 := rfl
  have hw : (Ref.headIx (wide c y)).val = (1024 * c.val + y.val) / 128 := rfl
  have eq : colsQ (blockQ c wq) (headIx y) = fun n d => wq (ix2 n ⟨(Ref.headIx (wide c y)).val * 128 + d.val, by omega⟩) :=
    funext fun n => funext fun d => (blockQ_apply c wq n _).trans (congrArg (fun z => wq (ix2 n z)) (Fin.ext (by
      show 1024 * c.val + (128 * (headIx y).val + d.val) = (Ref.headIx (wide c y)).val * 128 + d.val
      omega)))
  have ekv : ∀ w : S1024x8192.Idx → EReal, colsKV (cutOf (F := Ideal) c w) (headIx y)
      = fun n d => w (ix2 n ⟨(Ref.headIx (wide c y)).val / 4 * 128 + d.val, by omega⟩) := fun w =>
    funext fun n => funext fun d => (cutOf_apply (F := Ideal) c w n _).trans (congrArg (fun z => w (ix2 n z)) (Fin.ext (by
      show 256 * c.val + (128 * ((headIx y).val / 4) + d.val) = (Ref.headIx (wide c y)).val / 4 * 128 + d.val
      omega)))
  have ed : headCol y = Ref.headCol (wide c y) := Fin.ext (by show y.val % 128 = (1024 * c.val + y.val) % 128; omega)
  rw [eq, ekv wk, ekv wv, ed]
  exact congrArg _ (blockO_apply c wo y b)

/-! ## The claim -/

variable (m : (ℓ : Loc nD τ sig) → Buf (Elt Ideal) ℓ)

/-- A device's part, of what it is given. -/
theorem part_eq (c : Dev nD) : part m c = partOf (F := Ideal) (m ((c.tc : Thread nD τ).loc main_arg0)) (m ((c.tc : Thread nD τ).loc main_arg1))
    (m ((c.tc : Thread nD τ).loc main_arg4)) (cutOf (F := Ideal) c (m ((c.tc : Thread nD τ).loc main_arg2)))
    (cutOf (F := Ideal) c (m ((c.tc : Thread nD τ).loc main_arg3))) := by
  unfold part
  rw [cutK_eq, cutV_eq, V1_of m c main_arg0 (by decide), V1_of m c main_arg1 (by decide), V1_of m c main_arg4 (by decide)]

/-- The kernel's result on every device is the reference's. -/
theorem total_eq (m' : (ℓ : Loc Cert.ReferenceIdeal.nD Cert.ReferenceIdeal.τ Cert.ReferenceIdeal.sig) → Buf (Elt Ideal) ℓ)
    (h : ∀ d : Dev nD, part m d = partOf (F := Ideal) (m' (((0 : Dev Cert.ReferenceIdeal.nD).tc : Thread Cert.ReferenceIdeal.nD Cert.ReferenceIdeal.τ).loc Cert.ReferenceIdeal.main_arg0))
      (blockQ d (m' (((0 : Dev Cert.ReferenceIdeal.nD).tc : Thread Cert.ReferenceIdeal.nD Cert.ReferenceIdeal.τ).loc Cert.ReferenceIdeal.main_arg1)))
      (blockO d (m' (((0 : Dev Cert.ReferenceIdeal.nD).tc : Thread Cert.ReferenceIdeal.nD Cert.ReferenceIdeal.τ).loc Cert.ReferenceIdeal.main_arg4)))
      (cutOf (F := Ideal) d (m' (((0 : Dev Cert.ReferenceIdeal.nD).tc : Thread Cert.ReferenceIdeal.nD Cert.ReferenceIdeal.τ).loc Cert.ReferenceIdeal.main_arg2)))
      (cutOf (F := Ideal) d (m' (((0 : Dev Cert.ReferenceIdeal.nD).tc : Thread Cert.ReferenceIdeal.nD Cert.ReferenceIdeal.τ).loc Cert.ReferenceIdeal.main_arg3))))
    (c : Dev nD) : total m c = Cert.ReferenceIdeal.Value.res_out0 (F := Ideal) m' 0 := by
  rw [Ref.res_eq]
  refine funext fun (i : S1x512x1024.Idx) => ?_
  rw [show i = ix3 0 (i 1) (i 2) from by
    refine funext fun a => ?_
    match a with
    | ⟨0, _⟩ => exact Subsingleton.elim (α := Fin 1) _ _
    | ⟨1, _⟩ => rfl
    | ⟨2, _⟩ => rfl]
  refine (outAt_all (part m) c (i 1) (i 2)).trans ?_
  refine Eq.trans (Finset.sum_congr rfl fun d _ => congrFun (h d) _) ?_
  exact parts_sum _ _ _ _ _ (i 1) (i 2)

theorem algebraic : Cert.algebraic_KernelIdeal_ReferenceIdeal := by
  intro m g m' g' _ hin
  have hp : ∀ d : Dev nD, part m d = _ := fun d => by
    obtain ⟨e0, e1, e2, e3, e4⟩ := hin d
    rw [part_eq m d, e0, e1, e2, e3, e4]
  refine ⟨Cert.ReferenceIdeal.Value.res_out0 (F := Ideal) m' 0, ?_, ?_⟩
  · exact (θ_run Cert.KernelIdeal.defs _ _).mono (fun _ h c => ⟨(h.1 c).1.trans (total_eq m m' hp c), (h.1 c).2⟩) (run_main (F := Ideal) m g)
  · exact (θ_run Cert.ReferenceIdeal.defs _ _).mono (fun _ h => h 0) (Cert.ReferenceIdeal.Value.run (F := Ideal) m' g')

end Cert.Proof
-- ==== Proof.lean ====
/- The claims of this certificate, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  kernel_frame, kernelIdeal_frame, referenceIdeal_frame, trivial, algebraic⟩

end Cert.Proof

end
